-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨4, ![4, 256, 16, 64]⟩ ⟨4, ![4, 4096, 16, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![4, 256, 16, 64]⟩ ⟨4, ![4, 4096, 16, 64]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 256, 16, 64]⟩ ⟨4, ![4, 4096, 16, 64]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨4, ![4, 256, 16, 64]⟩ ⟨4, ![4, 4096, 16, 64]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4x256x16x64 : Shape := ⟨4, ![4, 256, 16, 64]⟩
abbrev S_ : Shape := ⟨0, ![]⟩

class Facts : Prop where
  bitsLt_bf16_f32 : FTy.bits .bf16 < FTy.bits .f32
  bcast_S_S4x256x16x64 : S_.BroadcastsInDim S4x256x16x64 (![] : Fin 0 → Fin S4x256x16x64.rank)
  reducesTo_S4x256x16x64_S_d0_1_2_3 : S4x256x16x64.ReducesTo [0, 1, 2, 3] S_
  h_S_ : 0 < S_.numel

variable [Facts]

def fn {F : FTy → Type} [FloatOps F] (main_arg0 : FVec F S4x256x16x64 .bf16) (main_arg1 : FVec F S4x256x16x64 .bf16) (main_arg2 : FVec F S4x256x16x64 .bf16) : IVec S_ 1 :=
  let main_v0 : FVec F S4x256x16x64 .f32 := (extf .f32 · bitsLt_bf16_f32) main_arg0
  let main_v1 : FVec F S4x256x16x64 .f32 := Host.absf main_v0
  let main_cst : FVec F S_ .f32 := constant S_ .f32 0x7F800000#32
  let main_v2 : FVec F S4x256x16x64 .f32 := broadcastInDim S4x256x16x64 ![] bcast_S_S4x256x16x64 main_cst
  let main_v3 : IVec S4x256x16x64 1 := cmpf .olt main_v1 main_v2
  let main_c : IVec S_ 1 := constantI S_ 1 1#1
  let main_v4 : IVec S_ 1 := (fun x v => Host.reduce IntOp.andi x v reducesTo_S4x256x16x64_S_d0_1_2_3 h_S_) main_v3 main_c
  let main_v5 : FVec F S4x256x16x64 .f32 := (extf .f32 · bitsLt_bf16_f32) main_arg1
  let main_v6 : FVec F S4x256x16x64 .f32 := Host.absf main_v5
  let main_cst_0 : FVec F S_ .f32 := constant S_ .f32 0x7F800000#32
  let main_v7 : FVec F S4x256x16x64 .f32 := broadcastInDim S4x256x16x64 ![] bcast_S_S4x256x16x64 main_cst_0
  let main_v8 : IVec S4x256x16x64 1 := cmpf .olt main_v6 main_v7
  let main_c_1 : IVec S_ 1 := constantI S_ 1 1#1
  let main_v9 : IVec S_ 1 := (fun x v => Host.reduce IntOp.andi x v reducesTo_S4x256x16x64_S_d0_1_2_3 h_S_) main_v8 main_c_1
  let main_v10 : IVec S_ 1 := andi main_v4 main_v9
  main_v10
-- ==== Pre_finite_qk_ReferenceIdeal.lean ====
abbrev S4x4096x16x64 : Shape := ⟨4, ![4, 4096, 16, 64]⟩
abbrev S_ : Shape := ⟨0, ![]⟩

class Facts : Prop where
  bitsLt_bf16_f32 : FTy.bits .bf16 < FTy.bits .f32
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel

variable [Facts]

def fn {F : FTy → Type} [FloatOps F] (main_arg0 : FVec F S4x4096x16x64 .bf16) (main_arg1 : FVec F S4x4096x16x64 .bf16) (main_arg2 : FVec F S4x4096x16x64 .bf16) : IVec S_ 1 :=
  let main_v0 : FVec F S4x4096x16x64 .f32 := (extf .f32 · bitsLt_bf16_f32) main_arg0
  let main_v1 : FVec F S4x4096x16x64 .f32 := Host.absf main_v0
  let main_cst : FVec F S_ .f32 := constant S_ .f32 0x7F800000#32
  let main_v2 : FVec F S4x4096x16x64 .f32 := broadcastInDim S4x4096x16x64 ![] bcast_S_S4x4096x16x64 main_cst
  let main_v3 : IVec S4x4096x16x64 1 := cmpf .olt main_v1 main_v2
  let main_c : IVec S_ 1 := constantI S_ 1 1#1
  let main_v4 : IVec S_ 1 := (fun x v => Host.reduce IntOp.andi x v reducesTo_S4x4096x16x64_S_d0_1_2_3 h_S_) main_v3 main_c
  let main_v5 : FVec F S4x4096x16x64 .f32 := (extf .f32 · bitsLt_bf16_f32) main_arg1
  let main_v6 : FVec F S4x4096x16x64 .f32 := Host.absf main_v5
  let main_cst_0 : FVec F S_ .f32 := constant S_ .f32 0x7F800000#32
  let main_v7 : FVec F S4x4096x16x64 .f32 := broadcastInDim S4x4096x16x64 ![] bcast_S_S4x4096x16x64 main_cst_0
  let main_v8 : IVec S4x4096x16x64 1 := cmpf .olt main_v6 main_v7
  let main_c_1 : IVec S_ 1 := constantI S_ 1 1#1
  let main_v9 : IVec S_ 1 := (fun x v => Host.reduce IntOp.andi x v reducesTo_S4x4096x16x64_S_d0_1_2_3 h_S_) main_v8 main_c_1
  let main_v10 : IVec S_ 1 := andi main_v4 main_v9
  main_v10
-- ==== Kernel.lean ====
abbrev S4x256x16x64 : Shape := ⟨4, ![4, 256, 16, 64]⟩
abbrev S_ : Shape := ⟨0, ![]⟩
abbrev S16x4x256x64 : Shape := ⟨4, ![16, 4, 256, 64]⟩
abbrev S64x256x64 : Shape := ⟨3, ![64, 256, 64]⟩
abbrev S64x64x256 : Shape := ⟨3, ![64, 64, 256]⟩
abbrev S2x2x64x256x64 : Shape := ⟨5, ![2, 2, 64, 256, 64]⟩
abbrev S64x1x256 : Shape := ⟨3, ![64, 1, 256]⟩
abbrev S15 : Shape := ⟨1, ![15]⟩
abbrev S14 : Shape := ⟨1, ![14]⟩
abbrev S1x1x64x256x64 : Shape := ⟨5, ![1, 1, 64, 256, 64]⟩
abbrev S1 : Shape := ⟨1, ![1]⟩
abbrev S1x2x64x256x64 : Shape := ⟨5, ![1, 2, 64, 256, 64]⟩
abbrev S2x64x256x64 : Shape := ⟨4, ![2, 64, 256, 64]⟩
abbrev S1x256x64 : Shape := ⟨3, ![1, 256, 64]⟩
abbrev S256x64 : Shape := ⟨2, ![256, 64]⟩
abbrev S1x1x1x256x64 : Shape := ⟨5, ![1, 1, 1, 256, 64]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S64x256 : Shape := ⟨2, ![64, 256]⟩
abbrev S1x64x256 : Shape := ⟨3, ![1, 64, 256]⟩
abbrev S16x4x64x256 : Shape := ⟨4, ![16, 4, 64, 256]⟩

abbrev nBuf : Space → Nat
  | .hbm => 15
  | .vmem => 7
  | .smem => 0
  | _ => 0

abbrev bufTy : (tb : Table) → Fin (tcTables nBuf tb) → BufTy
  | .hbm, ⟨0, _⟩ => ⟨S4x256x16x64, .bf16⟩
  | .hbm, ⟨1, _⟩ => ⟨S4x256x16x64, .bf16⟩
  | .hbm, ⟨2, _⟩ => ⟨S4x256x16x64, .bf16⟩
  | .hbm, ⟨3, _⟩ => ⟨S_, .bf16⟩
  | .hbm, ⟨4, _⟩ => ⟨S4x256x16x64, .bf16⟩
  | .hbm, ⟨5, _⟩ => ⟨S4x256x16x64, .bf16⟩
  | .hbm, ⟨6, _⟩ => ⟨S16x4x256x64, .bf16⟩
  | .hbm, ⟨7, _⟩ => ⟨S64x256x64, .bf16⟩
  | .hbm, ⟨8, _⟩ => ⟨S16x4x256x64, .bf16⟩
  | .hbm, ⟨9, _⟩ => ⟨S64x256x64, .bf16⟩
  | .hbm, ⟨10, _⟩ => ⟨S16x4x256x64, .bf16⟩
  | .hbm, ⟨11, _⟩ => ⟨S64x256x64, .bf16⟩
  | .hbm, ⟨12, _⟩ => ⟨S64x64x256, .f32⟩
  | .hbm, ⟨13, _⟩ => ⟨S16x4x64x256, .f32⟩
  | .hbm, ⟨14, _⟩ => ⟨S4x256x16x64, .f32⟩
  | .local _ .vmem, ⟨0, _⟩ => ⟨S64x256x64, .bf16⟩
  | .local _ .vmem, ⟨1, _⟩ => ⟨S64x256x64, .bf16⟩
  | .local _ .vmem, ⟨2, _⟩ => ⟨S64x256x64, .bf16⟩
  | .local _ .vmem, ⟨3, _⟩ => ⟨S64x64x256, .f32⟩
  | .local _ .vmem, ⟨4, _⟩ => ⟨S2x2x64x256x64, .bf16⟩
  | .local _ .vmem, ⟨5, _⟩ => ⟨S64x64x256, .f32⟩
  | .local _ .vmem, ⟨6, _⟩ => ⟨S64x1x256, .f32⟩
  | _, _ => ⟨S4x256x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 15 34 bufScoped semScoped dmaSemScoped tileCredit tileCredit_eq_zero tileCredit_pos).withBarriers [(0, 14)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 14

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_35 : BitVec 32 := 1#32
  let v31 : BitVec 32 := Scalar.muli v7 c1_i32_35
  let v32 : BitVec 32 := Scalar.addi c0_i32_36 v31
  v32.toNat
@[reducible] def k0_t1_loop : Scf.Loop 32 :=
  let c0_i32_45 : BitVec 32 := 0#32
  let c16_i32_46 : BitVec 32 := 16#32
  let v41 : BitVec 32 := Scalar.addi c0_i32_45 c16_i32_46
  let c1_i32_47 : BitVec 32 := 1#32
  ⟨c0_i32_45, v41, c1_i32_47⟩
def k0_off1 (k0_t1 : Fin k0_t1_loop.trips) (c0_i32_806 : BitVec 32) : Fin 3 → Nat :=
  let c0_i32_45 : BitVec 32 := 0#32
  let c1_i32_47 : BitVec 32 := 1#32
  let arg10 : BitVec 32 := Scf.iv c0_i32_45 c1_i32_47 k0_t1
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off2 (k0_t1 : Fin k0_t1_loop.trips) (c0_i32_806 : BitVec 32) : Fin 5 → Nat :=
  let c0_809 : Index := 0#32
  let c0_810 : Index := 0#32
  let c0_i32_45 : BitVec 32 := 0#32
  let c1_i32_47 : BitVec 32 := 1#32
  let arg10 : BitVec 32 := Scf.iv c0_i32_45 c1_i32_47 k0_t1
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off3 (k0_t1 : Fin k0_t1_loop.trips) (c0_i32_806 : BitVec 32) : Fin 5 → Nat :=
  let c0_813 : Index := 0#32
  let c1_814 : Index := 1#32
  let c0_i32_45 : BitVec 32 := 0#32
  let c1_i32_47 : BitVec 32 := 1#32
  let arg10 : BitVec 32 := Scf.iv c0_i32_45 c1_i32_47 k0_t1
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off4 (k0_t1 : Fin k0_t1_loop.trips) (c0_i32_806 : BitVec 32) : Fin 3 → Nat :=
  let c0_i32_45 : BitVec 32 := 0#32
  let c1_i32_47 : BitVec 32 := 1#32
  let arg10 : BitVec 32 := Scf.iv c0_i32_45 c1_i32_47 k0_t1
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off5 (k0_t1 : Fin k0_t1_loop.trips) (c0_i32_806 : BitVec 32) : Fin 3 → Nat :=
  let c0_i32_45 : BitVec 32 := 0#32
  let c1_i32_47 : BitVec 32 := 1#32
  let arg10 : BitVec 32 := Scf.iv c0_i32_45 c1_i32_47 k0_t1
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_78 : BitVec 32 := 1#32
  let v58 : BitVec 32 := Scalar.muli v5 c1_i32_78
  let v59 : BitVec 32 := Scalar.addi c0_i32_79 v58
  v59.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_87 : BitVec 32 := 1#32
  let v62 : BitVec 32 := Scalar.muli v7 c1_i32_87
  let v63 : BitVec 32 := Scalar.addi c0_i32_88 v62
  v63.toNat
@[reducible] def k0_t2_loop : Scf.Loop 32 :=
  let c0_i32_97 : BitVec 32 := 0#32
  let c16_i32_98 : BitVec 32 := 16#32
  let v72 : BitVec 32 := Scalar.addi c0_i32_97 c16_i32_98
  let c1_i32_99 : BitVec 32 := 1#32
  ⟨c0_i32_97, v72, c1_i32_99⟩
def k0_off6 (k0_t2 : Fin k0_t2_loop.trips) (c0_i32_806 : BitVec 32) : Fin 3 → Nat :=
  let c0_i32_97 : BitVec 32 := 0#32
  let c1_i32_99 : BitVec 32 := 1#32
  let arg10 : BitVec 32 := Scf.iv c0_i32_97 c1_i32_99 k0_t2
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off7 (k0_t2 : Fin k0_t2_loop.trips) (c0_i32_806 : BitVec 32) : Fin 5 → Nat :=
  let c1_809 : Index := 1#32
  let c0_810 : Index := 0#32
  let c0_i32_97 : BitVec 32 := 0#32
  let c1_i32_99 : BitVec 32 := 1#32
  let arg10 : BitVec 32 := Scf.iv c0_i32_97 c1_i32_99 k0_t2
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off8 (k0_t2 : Fin k0_t2_loop.trips) (c0_i32_806 : BitVec 32) : Fin 5 → Nat :=
  let c1_813 : Index := 1#32
  let c1_814 : Index := 1#32
  let c0_i32_97 : BitVec 32 := 0#32
  let c1_i32_99 : BitVec 32 := 1#32
  let arg10 : BitVec 32 := Scf.iv c0_i32_97 c1_i32_99 k0_t2
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off9 (k0_t2 : Fin k0_t2_loop.trips) (c0_i32_806 : BitVec 32) : Fin 3 → Nat :=
  let c0_i32_97 : BitVec 32 := 0#32
  let c1_i32_99 : BitVec 32 := 1#32
  let arg10 : BitVec 32 := Scf.iv c0_i32_97 c1_i32_99 k0_t2
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off10 (k0_t2 : Fin k0_t2_loop.trips) (c0_i32_806 : BitVec 32) : Fin 3 → Nat :=
  let c0_i32_97 : BitVec 32 := 0#32
  let c1_i32_99 : BitVec 32 := 1#32
  let arg10 : BitVec 32 := Scf.iv c0_i32_97 c1_i32_99 k0_t2
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_130 : BitVec 32 := 1#32
  let v89 : BitVec 32 := Scalar.muli v5 c1_i32_130
  let v90 : BitVec 32 := Scalar.addi c0_i32_131 v89
  v90.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_139 : BitVec 32 := 1#32
  let v93 : BitVec 32 := Scalar.muli v7 c1_i32_139
  let v94 : BitVec 32 := Scalar.addi c0_i32_140 v93
  v94.toNat
@[reducible] def k0_t3_loop : Scf.Loop 32 :=
  let c0_i32_149 : BitVec 32 := 0#32
  let c16_i32_150 : BitVec 32 := 16#32
  let v103 : BitVec 32 := Scalar.addi c0_i32_149 c16_i32_150
  let c1_i32_151 : BitVec 32 := 1#32
  ⟨c0_i32_149, v103, c1_i32_151⟩
def k0_off11 (k0_t3 : Fin k0_t3_loop.trips) (c0_i32_806 : BitVec 32) : Fin 3 → Nat :=
  let c0_i32_149 : BitVec 32 := 0#32
  let c1_i32_151 : BitVec 32 := 1#32
  let arg10 : BitVec 32 := Scf.iv c0_i32_149 c1_i32_151 k0_t3
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off12 (k0_t3 : Fin k0_t3_loop.trips) (c0_i32_806 : BitVec 32) : Fin 5 → Nat :=
  let c0_809 : Index := 0#32
  let c0_810 : Index := 0#32
  let c0_i32_149 : BitVec 32 := 0#32
  let c1_i32_151 : BitVec 32 := 1#32
  let arg10 : BitVec 32 := Scf.iv c0_i32_149 c1_i32_151 k0_t3
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off13 (k0_t3 : Fin k0_t3_loop.trips) (c0_i32_806 : BitVec 32) : Fin 5 → Nat :=
  let c0_813 : Index := 0#32
  let c1_814 : Index := 1#32
  let c0_i32_149 : BitVec 32 := 0#32
  let c1_i32_151 : BitVec 32 := 1#32
  let arg10 : BitVec 32 := Scf.iv c0_i32_149 c1_i32_151 k0_t3
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off14 (k0_t3 : Fin k0_t3_loop.trips) (c0_i32_806 : BitVec 32) : Fin 3 → Nat :=
  let c0_i32_149 : BitVec 32 := 0#32
  let c1_i32_151 : BitVec 32 := 1#32
  let arg10 : BitVec 32 := Scf.iv c0_i32_149 c1_i32_151 k0_t3
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off15 (k0_t3 : Fin k0_t3_loop.trips) (c0_i32_806 : BitVec 32) : Fin 3 → Nat :=
  let c0_i32_149 : BitVec 32 := 0#32
  let c1_i32_151 : BitVec 32 := 1#32
  let arg10 : BitVec 32 := Scf.iv c0_i32_149 c1_i32_151 k0_t3
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_182 : BitVec 32 := 1#32
  let v120 : BitVec 32 := Scalar.muli v5 c1_i32_182
  let v121 : BitVec 32 := Scalar.addi c0_i32_183 v120
  v121.toNat
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_190 : BitVec 32 := 1#32
  let v124 : BitVec 32 := Scalar.muli v7 c1_i32_190
  let v125 : BitVec 32 := Scalar.addi c0_i32_191 v124
  v125.toNat
@[reducible] def k0_t4_loop : Scf.Loop 32 :=
  let c0_i32_200 : BitVec 32 := 0#32
  let c16_i32_201 : BitVec 32 := 16#32
  let v134 : BitVec 32 := Scalar.addi c0_i32_200 c16_i32_201
  let c1_i32_202 : BitVec 32 := 1#32
  ⟨c0_i32_200, v134, c1_i32_202⟩
def k0_off16 (k0_t4 : Fin k0_t4_loop.trips) (c0_i32_806 : BitVec 32) : Fin 3 → Nat :=
  let c0_i32_200 : BitVec 32 := 0#32
  let c1_i32_202 : BitVec 32 := 1#32
  let arg10 : BitVec 32 := Scf.iv c0_i32_200 c1_i32_202 k0_t4
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off17 (k0_t4 : Fin k0_t4_loop.trips) (c0_i32_806 : BitVec 32) : Fin 5 → Nat :=
  let c1_809 : Index := 1#32
  let c0_810 : Index := 0#32
  let c0_i32_200 : BitVec 32 := 0#32
  let c1_i32_202 : BitVec 32 := 1#32
  let arg10 : BitVec 32 := Scf.iv c0_i32_200 c1_i32_202 k0_t4
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off18 (k0_t4 : Fin k0_t4_loop.trips) (c0_i32_806 : BitVec 32) : Fin 5 → Nat :=
  let c1_813 : Index := 1#32
  let c1_814 : Index := 1#32
  let c0_i32_200 : BitVec 32 := 0#32
  let c1_i32_202 : BitVec 32 := 1#32
  let arg10 : BitVec 32 := Scf.iv c0_i32_200 c1_i32_202 k0_t4
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off19 (k0_t4 : Fin k0_t4_loop.trips) (c0_i32_806 : BitVec 32) : Fin 3 → Nat :=
  let c0_i32_200 : BitVec 32 := 0#32
  let c1_i32_202 : BitVec 32 := 1#32
  let arg10 : BitVec 32 := Scf.iv c0_i32_200 c1_i32_202 k0_t4
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off20 (k0_t4 : Fin k0_t4_loop.trips) (c0_i32_806 : BitVec 32) : Fin 3 → Nat :=
  let c0_i32_200 : BitVec 32 := 0#32
  let c1_i32_202 : BitVec 32 := 1#32
  let arg10 : BitVec 32 := Scf.iv c0_i32_200 c1_i32_202 k0_t4
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_233 : BitVec 32 := 1#32
  let v151 : BitVec 32 := Scalar.muli v5 c1_i32_233
  let v152 : BitVec 32 := Scalar.addi c0_i32_234 v151
  v152.toNat
def k0_dev11 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_241 : BitVec 32 := 1#32
  let v155 : BitVec 32 := Scalar.muli v7 c1_i32_241
  let v156 : BitVec 32 := Scalar.addi c0_i32_242 v155
  v156.toNat
@[reducible] def k0_t5_loop : Scf.Loop 32 :=
  let c0_i32_251 : BitVec 32 := 0#32
  let c16_i32_252 : BitVec 32 := 16#32
  let v165 : BitVec 32 := Scalar.addi c0_i32_251 c16_i32_252
  let c1_i32_253 : BitVec 32 := 1#32
  ⟨c0_i32_251, v165, c1_i32_253⟩
def k0_off21 (k0_t5 : Fin k0_t5_loop.trips) (c0_i32_806 : BitVec 32) : Fin 3 → Nat :=
  let c0_i32_251 : BitVec 32 := 0#32
  let c1_i32_253 : BitVec 32 := 1#32
  let arg10 : BitVec 32 := Scf.iv c0_i32_251 c1_i32_253 k0_t5
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off22 (k0_t5 : Fin k0_t5_loop.trips) (c0_i32_806 : BitVec 32) : Fin 5 → Nat :=
  let c0_809 : Index := 0#32
  let c0_810 : Index := 0#32
  let c0_i32_251 : BitVec 32 := 0#32
  let c1_i32_253 : BitVec 32 := 1#32
  let arg10 : BitVec 32 := Scf.iv c0_i32_251 c1_i32_253 k0_t5
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off23 (k0_t5 : Fin k0_t5_loop.trips) (c0_i32_806 : BitVec 32) : Fin 5 → Nat :=
  let c0_813 : Index := 0#32
  let c1_814 : Index := 1#32
  let c0_i32_251 : BitVec 32 := 0#32
  let c1_i32_253 : BitVec 32 := 1#32
  let arg10 : BitVec 32 := Scf.iv c0_i32_251 c1_i32_253 k0_t5
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off24 (k0_t5 : Fin k0_t5_loop.trips) (c0_i32_806 : BitVec 32) : Fin 3 → Nat :=
  let c0_i32_251 : BitVec 32 := 0#32
  let c1_i32_253 : BitVec 32 := 1#32
  let arg10 : BitVec 32 := Scf.iv c0_i32_251 c1_i32_253 k0_t5
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off25 (k0_t5 : Fin k0_t5_loop.trips) (c0_i32_806 : BitVec 32) : Fin 3 → Nat :=
  let c0_i32_251 : BitVec 32 := 0#32
  let c1_i32_253 : BitVec 32 := 1#32
  let arg10 : BitVec 32 := Scf.iv c0_i32_251 c1_i32_253 k0_t5
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_284 : BitVec 32 := 1#32
  let v182 : BitVec 32 := Scalar.muli v5 c1_i32_284
  let v183 : BitVec 32 := Scalar.addi c0_i32_285 v182
  v183.toNat
def k0_dev13 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_292 : BitVec 32 := 1#32
  let v186 : BitVec 32 := Scalar.muli v7 c1_i32_292
  let v187 : BitVec 32 := Scalar.addi c0_i32_293 v186
  v187.toNat
@[reducible] def k0_t6_loop : Scf.Loop 32 :=
  let c0_i32_302 : BitVec 32 := 0#32
  let c16_i32_303 : BitVec 32 := 16#32
  let v196 : BitVec 32 := Scalar.addi c0_i32_302 c16_i32_303
  let c1_i32_304 : BitVec 32 := 1#32
  ⟨c0_i32_302, v196, c1_i32_304⟩
def k0_off26 (k0_t6 : Fin k0_t6_loop.trips) (c0_i32_806 : BitVec 32) : Fin 3 → Nat :=
  let c0_i32_302 : BitVec 32 := 0#32
  let c1_i32_304 : BitVec 32 := 1#32
  let arg10 : BitVec 32 := Scf.iv c0_i32_302 c1_i32_304 k0_t6
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off27 (k0_t6 : Fin k0_t6_loop.trips) (c0_i32_806 : BitVec 32) : Fin 5 → Nat :=
  let c1_809 : Index := 1#32
  let c0_810 : Index := 0#32
  let c0_i32_302 : BitVec 32 := 0#32
  let c1_i32_304 : BitVec 32 := 1#32
  let arg10 : BitVec 32 := Scf.iv c0_i32_302 c1_i32_304 k0_t6
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off28 (k0_t6 : Fin k0_t6_loop.trips) (c0_i32_806 : BitVec 32) : Fin 5 → Nat :=
  let c1_813 : Index := 1#32
  let c1_814 : Index := 1#32
  let c0_i32_302 : BitVec 32 := 0#32
  let c1_i32_304 : BitVec 32 := 1#32
  let arg10 : BitVec 32 := Scf.iv c0_i32_302 c1_i32_304 k0_t6
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off29 (k0_t6 : Fin k0_t6_loop.trips) (c0_i32_806 : BitVec 32) : Fin 3 → Nat :=
  let c0_i32_302 : BitVec 32 := 0#32
  let c1_i32_304 : BitVec 32 := 1#32
  let arg10 : BitVec 32 := Scf.iv c0_i32_302 c1_i32_304 k0_t6
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off30 (k0_t6 : Fin k0_t6_loop.trips) (c0_i32_806 : BitVec 32) : Fin 3 → Nat :=
  let c0_i32_302 : BitVec 32 := 0#32
  let c1_i32_304 : BitVec 32 := 1#32
  let arg10 : BitVec 32 := Scf.iv c0_i32_302 c1_i32_304 k0_t6
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev14 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_335 : BitVec 32 := 1#32
  let v213 : BitVec 32 := Scalar.muli v5 c1_i32_335
  let v214 : BitVec 32 := Scalar.addi c0_i32_336 v213
  v214.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_343 : BitVec 32 := 1#32
  let v217 : BitVec 32 := Scalar.muli v7 c1_i32_343
  let v218 : BitVec 32 := Scalar.addi c0_i32_344 v217
  v218.toNat
@[reducible] def k0_t7_loop : Scf.Loop 32 :=
  let c0_i32_353 : BitVec 32 := 0#32
  let c16_i32_354 : BitVec 32 := 16#32
  let v227 : BitVec 32 := Scalar.addi c0_i32_353 c16_i32_354
  let c1_i32_355 : BitVec 32 := 1#32
  ⟨c0_i32_353, v227, c1_i32_355⟩
def k0_off31 (k0_t7 : Fin k0_t7_loop.trips) (c0_i32_806 : BitVec 32) : Fin 3 → Nat :=
  let c0_i32_353 : BitVec 32 := 0#32
  let c1_i32_355 : BitVec 32 := 1#32
  let arg10 : BitVec 32 := Scf.iv c0_i32_353 c1_i32_355 k0_t7
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off32 (k0_t7 : Fin k0_t7_loop.trips) (c0_i32_806 : BitVec 32) : Fin 5 → Nat :=
  let c0_809 : Index := 0#32
  let c0_810 : Index := 0#32
  let c0_i32_353 : BitVec 32 := 0#32
  let c1_i32_355 : BitVec 32 := 1#32
  let arg10 : BitVec 32 := Scf.iv c0_i32_353 c1_i32_355 k0_t7
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off33 (k0_t7 : Fin k0_t7_loop.trips) (c0_i32_806 : BitVec 32) : Fin 5 → Nat :=
  let c0_813 : Index := 0#32
  let c1_814 : Index := 1#32
  let c0_i32_353 : BitVec 32 := 0#32
  let c1_i32_355 : BitVec 32 := 1#32
  let arg10 : BitVec 32 := Scf.iv c0_i32_353 c1_i32_355 k0_t7
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off34 (k0_t7 : Fin k0_t7_loop.trips) (c0_i32_806 : BitVec 32) : Fin 3 → Nat :=
  let c0_i32_353 : BitVec 32 := 0#32
  let c1_i32_355 : BitVec 32 := 1#32
  let arg10 : BitVec 32 := Scf.iv c0_i32_353 c1_i32_355 k0_t7
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off35 (k0_t7 : Fin k0_t7_loop.trips) (c0_i32_806 : BitVec 32) : Fin 3 → Nat :=
  let c0_i32_353 : BitVec 32 := 0#32
  let c1_i32_355 : BitVec 32 := 1#32
  let arg10 : BitVec 32 := Scf.iv c0_i32_353 c1_i32_355 k0_t7
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev16 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_386 : BitVec 32 := 1#32
  let v244 : BitVec 32 := Scalar.muli v5 c1_i32_386
  let v245 : BitVec 32 := Scalar.addi c0_i32_387 v244
  v245.toNat
def k0_dev17 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_394 : BitVec 32 := 1#32
  let v248 : BitVec 32 := Scalar.muli v7 c1_i32_394
  let v249 : BitVec 32 := Scalar.addi c0_i32_395 v248
  v249.toNat
@[reducible] def k0_t8_loop : Scf.Loop 32 :=
  let c0_i32_404 : BitVec 32 := 0#32
  let c16_i32_405 : BitVec 32 := 16#32
  let v258 : BitVec 32 := Scalar.addi c0_i32_404 c16_i32_405
  let c1_i32_406 : BitVec 32 := 1#32
  ⟨c0_i32_404, v258, c1_i32_406⟩
def k0_off36 (k0_t8 : Fin k0_t8_loop.trips) (c0_i32_806 : BitVec 32) : Fin 3 → Nat :=
  let c0_i32_404 : BitVec 32 := 0#32
  let c1_i32_406 : BitVec 32 := 1#32
  let arg10 : BitVec 32 := Scf.iv c0_i32_404 c1_i32_406 k0_t8
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off37 (k0_t8 : Fin k0_t8_loop.trips) (c0_i32_806 : BitVec 32) : Fin 5 → Nat :=
  let c1_809 : Index := 1#32
  let c0_810 : Index := 0#32
  let c0_i32_404 : BitVec 32 := 0#32
  let c1_i32_406 : BitVec 32 := 1#32
  let arg10 : BitVec 32 := Scf.iv c0_i32_404 c1_i32_406 k0_t8
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off38 (k0_t8 : Fin k0_t8_loop.trips) (c0_i32_806 : BitVec 32) : Fin 5 → Nat :=
  let c1_813 : Index := 1#32
  let c1_814 : Index := 1#32
  let c0_i32_404 : BitVec 32 := 0#32
  let c1_i32_406 : BitVec 32 := 1#32
  let arg10 : BitVec 32 := Scf.iv c0_i32_404 c1_i32_406 k0_t8
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off39 (k0_t8 : Fin k0_t8_loop.trips) (c0_i32_806 : BitVec 32) : Fin 3 → Nat :=
  let c0_i32_404 : BitVec 32 := 0#32
  let c1_i32_406 : BitVec 32 := 1#32
  let arg10 : BitVec 32 := Scf.iv c0_i32_404 c1_i32_406 k0_t8
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off40 (k0_t8 : Fin k0_t8_loop.trips) (c0_i32_806 : BitVec 32) : Fin 3 → Nat :=
  let c0_i32_404 : BitVec 32 := 0#32
  let c1_i32_406 : BitVec 32 := 1#32
  let arg10 : BitVec 32 := Scf.iv c0_i32_404 c1_i32_406 k0_t8
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev18 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_437 : BitVec 32 := 1#32
  let v275 : BitVec 32 := Scalar.muli v5 c1_i32_437
  let v276 : BitVec 32 := Scalar.addi c0_i32_438 v275
  v276.toNat
def k0_dev19 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_445 : BitVec 32 := 1#32
  let v279 : BitVec 32 := Scalar.muli v7 c1_i32_445
  let v280 : BitVec 32 := Scalar.addi c0_i32_446 v279
  v280.toNat
@[reducible] def k0_t9_loop : Scf.Loop 32 :=
  let c0_i32_455 : BitVec 32 := 0#32
  let c16_i32_456 : BitVec 32 := 16#32
  let v289 : BitVec 32 := Scalar.addi c0_i32_455 c16_i32_456
  let c1_i32_457 : BitVec 32 := 1#32
  ⟨c0_i32_455, v289, c1_i32_457⟩
def k0_off41 (k0_t9 : Fin k0_t9_loop.trips) (c0_i32_806 : BitVec 32) : Fin 3 → Nat :=
  let c0_i32_455 : BitVec 32 := 0#32
  let c1_i32_457 : BitVec 32 := 1#32
  let arg10 : BitVec 32 := Scf.iv c0_i32_455 c1_i32_457 k0_t9
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off42 (k0_t9 : Fin k0_t9_loop.trips) (c0_i32_806 : BitVec 32) : Fin 5 → Nat :=
  let c0_809 : Index := 0#32
  let c0_810 : Index := 0#32
  let c0_i32_455 : BitVec 32 := 0#32
  let c1_i32_457 : BitVec 32 := 1#32
  let arg10 : BitVec 32 := Scf.iv c0_i32_455 c1_i32_457 k0_t9
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off43 (k0_t9 : Fin k0_t9_loop.trips) (c0_i32_806 : BitVec 32) : Fin 5 → Nat :=
  let c0_813 : Index := 0#32
  let c1_814 : Index := 1#32
  let c0_i32_455 : BitVec 32 := 0#32
  let c1_i32_457 : BitVec 32 := 1#32
  let arg10 : BitVec 32 := Scf.iv c0_i32_455 c1_i32_457 k0_t9
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off44 (k0_t9 : Fin k0_t9_loop.trips) (c0_i32_806 : BitVec 32) : Fin 3 → Nat :=
  let c0_i32_455 : BitVec 32 := 0#32
  let c1_i32_457 : BitVec 32 := 1#32
  let arg10 : BitVec 32 := Scf.iv c0_i32_455 c1_i32_457 k0_t9
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off45 (k0_t9 : Fin k0_t9_loop.trips) (c0_i32_806 : BitVec 32) : Fin 3 → Nat :=
  let c0_i32_455 : BitVec 32 := 0#32
  let c1_i32_457 : BitVec 32 := 1#32
  let arg10 : BitVec 32 := Scf.iv c0_i32_455 c1_i32_457 k0_t9
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev20 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_488 : BitVec 32 := 1#32
  let v306 : BitVec 32 := Scalar.muli v5 c1_i32_488
  let v307 : BitVec 32 := Scalar.addi c0_i32_489 v306
  v307.toNat
def k0_dev21 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_496 : BitVec 32 := 1#32
  let v310 : BitVec 32 := Scalar.muli v7 c1_i32_496
  let v311 : BitVec 32 := Scalar.addi c0_i32_497 v310
  v311.toNat
@[reducible] def k0_t10_loop : Scf.Loop 32 :=
  let c0_i32_506 : BitVec 32 := 0#32
  let c16_i32_507 : BitVec 32 := 16#32
  let v320 : BitVec 32 := Scalar.addi c0_i32_506 c16_i32_507
  let c1_i32_508 : BitVec 32 := 1#32
  ⟨c0_i32_506, v320, c1_i32_508⟩
def k0_off46 (k0_t10 : Fin k0_t10_loop.trips) (c0_i32_806 : BitVec 32) : Fin 3 → Nat :=
  let c0_i32_506 : BitVec 32 := 0#32
  let c1_i32_508 : BitVec 32 := 1#32
  let arg10 : BitVec 32 := Scf.iv c0_i32_506 c1_i32_508 k0_t10
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off47 (k0_t10 : Fin k0_t10_loop.trips) (c0_i32_806 : BitVec 32) : Fin 5 → Nat :=
  let c1_809 : Index := 1#32
  let c0_810 : Index := 0#32
  let c0_i32_506 : BitVec 32 := 0#32
  let c1_i32_508 : BitVec 32 := 1#32
  let arg10 : BitVec 32 := Scf.iv c0_i32_506 c1_i32_508 k0_t10
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off48 (k0_t10 : Fin k0_t10_loop.trips) (c0_i32_806 : BitVec 32) : Fin 5 → Nat :=
  let c1_813 : Index := 1#32
  let c1_814 : Index := 1#32
  let c0_i32_506 : BitVec 32 := 0#32
  let c1_i32_508 : BitVec 32 := 1#32
  let arg10 : BitVec 32 := Scf.iv c0_i32_506 c1_i32_508 k0_t10
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off49 (k0_t10 : Fin k0_t10_loop.trips) (c0_i32_806 : BitVec 32) : Fin 3 → Nat :=
  let c0_i32_506 : BitVec 32 := 0#32
  let c1_i32_508 : BitVec 32 := 1#32
  let arg10 : BitVec 32 := Scf.iv c0_i32_506 c1_i32_508 k0_t10
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off50 (k0_t10 : Fin k0_t10_loop.trips) (c0_i32_806 : BitVec 32) : Fin 3 → Nat :=
  let c0_i32_506 : BitVec 32 := 0#32
  let c1_i32_508 : BitVec 32 := 1#32
  let arg10 : BitVec 32 := Scf.iv c0_i32_506 c1_i32_508 k0_t10
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev22 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_539 : BitVec 32 := 1#32
  let v337 : BitVec 32 := Scalar.muli v5 c1_i32_539
  let v338 : BitVec 32 := Scalar.addi c0_i32_540 v337
  v338.toNat
def k0_dev23 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_547 : BitVec 32 := 1#32
  let v341 : BitVec 32 := Scalar.muli v7 c1_i32_547
  let v342 : BitVec 32 := Scalar.addi c0_i32_548 v341
  v342.toNat
@[reducible] def k0_t11_loop : Scf.Loop 32 :=
  let c0_i32_557 : BitVec 32 := 0#32
  let c16_i32_558 : BitVec 32 := 16#32
  let v351 : BitVec 32 := Scalar.addi c0_i32_557 c16_i32_558
  let c1_i32_559 : BitVec 32 := 1#32
  ⟨c0_i32_557, v351, c1_i32_559⟩
def k0_off51 (k0_t11 : Fin k0_t11_loop.trips) (c0_i32_806 : BitVec 32) : Fin 3 → Nat :=
  let c0_i32_557 : BitVec 32 := 0#32
  let c1_i32_559 : BitVec 32 := 1#32
  let arg10 : BitVec 32 := Scf.iv c0_i32_557 c1_i32_559 k0_t11
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off52 (k0_t11 : Fin k0_t11_loop.trips) (c0_i32_806 : BitVec 32) : Fin 5 → Nat :=
  let c0_809 : Index := 0#32
  let c0_810 : Index := 0#32
  let c0_i32_557 : BitVec 32 := 0#32
  let c1_i32_559 : BitVec 32 := 1#32
  let arg10 : BitVec 32 := Scf.iv c0_i32_557 c1_i32_559 k0_t11
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off53 (k0_t11 : Fin k0_t11_loop.trips) (c0_i32_806 : BitVec 32) : Fin 5 → Nat :=
  let c0_813 : Index := 0#32
  let c1_814 : Index := 1#32
  let c0_i32_557 : BitVec 32 := 0#32
  let c1_i32_559 : BitVec 32 := 1#32
  let arg10 : BitVec 32 := Scf.iv c0_i32_557 c1_i32_559 k0_t11
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off54 (k0_t11 : Fin k0_t11_loop.trips) (c0_i32_806 : BitVec 32) : Fin 3 → Nat :=
  let c0_i32_557 : BitVec 32 := 0#32
  let c1_i32_559 : BitVec 32 := 1#32
  let arg10 : BitVec 32 := Scf.iv c0_i32_557 c1_i32_559 k0_t11
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off55 (k0_t11 : Fin k0_t11_loop.trips) (c0_i32_806 : BitVec 32) : Fin 3 → Nat :=
  let c0_i32_557 : BitVec 32 := 0#32
  let c1_i32_559 : BitVec 32 := 1#32
  let arg10 : BitVec 32 := Scf.iv c0_i32_557 c1_i32_559 k0_t11
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev24 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_590 : BitVec 32 := 1#32
  let v368 : BitVec 32 := Scalar.muli v5 c1_i32_590
  let v369 : BitVec 32 := Scalar.addi c0_i32_591 v368
  v369.toNat
def k0_dev25 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_598 : BitVec 32 := 1#32
  let v372 : BitVec 32 := Scalar.muli v7 c1_i32_598
  let v373 : BitVec 32 := Scalar.addi c0_i32_599 v372
  v373.toNat
@[reducible] def k0_t12_loop : Scf.Loop 32 :=
  let c0_i32_608 : BitVec 32 := 0#32
  let c16_i32_609 : BitVec 32 := 16#32
  let v382 : BitVec 32 := Scalar.addi c0_i32_608 c16_i32_609
  let c1_i32_610 : BitVec 32 := 1#32
  ⟨c0_i32_608, v382, c1_i32_610⟩
def k0_off56 (k0_t12 : Fin k0_t12_loop.trips) (c0_i32_806 : BitVec 32) : Fin 3 → Nat :=
  let c0_i32_608 : BitVec 32 := 0#32
  let c1_i32_610 : BitVec 32 := 1#32
  let arg10 : BitVec 32 := Scf.iv c0_i32_608 c1_i32_610 k0_t12
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off57 (k0_t12 : Fin k0_t12_loop.trips) (c0_i32_806 : BitVec 32) : Fin 5 → Nat :=
  let c1_809 : Index := 1#32
  let c0_810 : Index := 0#32
  let c0_i32_608 : BitVec 32 := 0#32
  let c1_i32_610 : BitVec 32 := 1#32
  let arg10 : BitVec 32 := Scf.iv c0_i32_608 c1_i32_610 k0_t12
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off58 (k0_t12 : Fin k0_t12_loop.trips) (c0_i32_806 : BitVec 32) : Fin 5 → Nat :=
  let c1_813 : Index := 1#32
  let c1_814 : Index := 1#32
  let c0_i32_608 : BitVec 32 := 0#32
  let c1_i32_610 : BitVec 32 := 1#32
  let arg10 : BitVec 32 := Scf.iv c0_i32_608 c1_i32_610 k0_t12
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off59 (k0_t12 : Fin k0_t12_loop.trips) (c0_i32_806 : BitVec 32) : Fin 3 → Nat :=
  let c0_i32_608 : BitVec 32 := 0#32
  let c1_i32_610 : BitVec 32 := 1#32
  let arg10 : BitVec 32 := Scf.iv c0_i32_608 c1_i32_610 k0_t12
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off60 (k0_t12 : Fin k0_t12_loop.trips) (c0_i32_806 : BitVec 32) : Fin 3 → Nat :=
  let c0_i32_608 : BitVec 32 := 0#32
  let c1_i32_610 : BitVec 32 := 1#32
  let arg10 : BitVec 32 := Scf.iv c0_i32_608 c1_i32_610 k0_t12
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev26 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_641 : BitVec 32 := 1#32
  let v399 : BitVec 32 := Scalar.muli v5 c1_i32_641
  let v400 : BitVec 32 := Scalar.addi c0_i32_642 v399
  v400.toNat
def k0_dev27 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_649 : BitVec 32 := 1#32
  let v403 : BitVec 32 := Scalar.muli v7 c1_i32_649
  let v404 : BitVec 32 := Scalar.addi c0_i32_650 v403
  v404.toNat
@[reducible] def k0_t13_loop : Scf.Loop 32 :=
  let c0_i32_659 : BitVec 32 := 0#32
  let c16_i32_660 : BitVec 32 := 16#32
  let v413 : BitVec 32 := Scalar.addi c0_i32_659 c16_i32_660
  let c1_i32_661 : BitVec 32 := 1#32
  ⟨c0_i32_659, v413, c1_i32_661⟩
def k0_off61 (k0_t13 : Fin k0_t13_loop.trips) (c0_i32_806 : BitVec 32) : Fin 3 → Nat :=
  let c0_i32_659 : BitVec 32 := 0#32
  let c1_i32_661 : BitVec 32 := 1#32
  let arg10 : BitVec 32 := Scf.iv c0_i32_659 c1_i32_661 k0_t13
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off62 (k0_t13 : Fin k0_t13_loop.trips) (c0_i32_806 : BitVec 32) : Fin 5 → Nat :=
  let c0_809 : Index := 0#32
  let c0_810 : Index := 0#32
  let c0_i32_659 : BitVec 32 := 0#32
  let c1_i32_661 : BitVec 32 := 1#32
  let arg10 : BitVec 32 := Scf.iv c0_i32_659 c1_i32_661 k0_t13
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off63 (k0_t13 : Fin k0_t13_loop.trips) (c0_i32_806 : BitVec 32) : Fin 5 → Nat :=
  let c0_813 : Index := 0#32
  let c1_814 : Index := 1#32
  let c0_i32_659 : BitVec 32 := 0#32
  let c1_i32_661 : BitVec 32 := 1#32
  let arg10 : BitVec 32 := Scf.iv c0_i32_659 c1_i32_661 k0_t13
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off64 (k0_t13 : Fin k0_t13_loop.trips) (c0_i32_806 : BitVec 32) : Fin 3 → Nat :=
  let c0_i32_659 : BitVec 32 := 0#32
  let c1_i32_661 : BitVec 32 := 1#32
  let arg10 : BitVec 32 := Scf.iv c0_i32_659 c1_i32_661 k0_t13
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off65 (k0_t13 : Fin k0_t13_loop.trips) (c0_i32_806 : BitVec 32) : Fin 3 → Nat :=
  let c0_i32_659 : BitVec 32 := 0#32
  let c1_i32_661 : BitVec 32 := 1#32
  let arg10 : BitVec 32 := Scf.iv c0_i32_659 c1_i32_661 k0_t13
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev28 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_692 : BitVec 32 := 1#32
  let v430 : BitVec 32 := Scalar.muli v5 c1_i32_692
  let v431 : BitVec 32 := Scalar.addi c0_i32_693 v430
  v431.toNat
def k0_dev29 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_700 : BitVec 32 := 1#32
  let v434 : BitVec 32 := Scalar.muli v7 c1_i32_700
  let v435 : BitVec 32 := Scalar.addi c0_i32_701 v434
  v435.toNat
@[reducible] def k0_t14_loop : Scf.Loop 32 :=
  let c0_i32_710 : BitVec 32 := 0#32
  let c16_i32_711 : BitVec 32 := 16#32
  let v444 : BitVec 32 := Scalar.addi c0_i32_710 c16_i32_711
  let c1_i32_712 : BitVec 32 := 1#32
  ⟨c0_i32_710, v444, c1_i32_712⟩
def k0_off66 (k0_t14 : Fin k0_t14_loop.trips) (c0_i32_806 : BitVec 32) : Fin 3 → Nat :=
  let c0_i32_710 : BitVec 32 := 0#32
  let c1_i32_712 : BitVec 32 := 1#32
  let arg10 : BitVec 32 := Scf.iv c0_i32_710 c1_i32_712 k0_t14
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off67 (k0_t14 : Fin k0_t14_loop.trips) (c0_i32_806 : BitVec 32) : Fin 5 → Nat :=
  let c1_809 : Index := 1#32
  let c0_810 : Index := 0#32
  let c0_i32_710 : BitVec 32 := 0#32
  let c1_i32_712 : BitVec 32 := 1#32
  let arg10 : BitVec 32 := Scf.iv c0_i32_710 c1_i32_712 k0_t14
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off68 (k0_t14 : Fin k0_t14_loop.trips) (c0_i32_806 : BitVec 32) : Fin 5 → Nat :=
  let c1_813 : Index := 1#32
  let c1_814 : Index := 1#32
  let c0_i32_710 : BitVec 32 := 0#32
  let c1_i32_712 : BitVec 32 := 1#32
  let arg10 : BitVec 32 := Scf.iv c0_i32_710 c1_i32_712 k0_t14
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off69 (k0_t14 : Fin k0_t14_loop.trips) (c0_i32_806 : BitVec 32) : Fin 3 → Nat :=
  let c0_i32_710 : BitVec 32 := 0#32
  let c1_i32_712 : BitVec 32 := 1#32
  let arg10 : BitVec 32 := Scf.iv c0_i32_710 c1_i32_712 k0_t14
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off70 (k0_t14 : Fin k0_t14_loop.trips) (c0_i32_806 : BitVec 32) : Fin 3 → Nat :=
  let c0_i32_710 : BitVec 32 := 0#32
  let c1_i32_712 : BitVec 32 := 1#32
  let arg10 : BitVec 32 := Scf.iv c0_i32_710 c1_i32_712 k0_t14
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
def k0_dev30 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_743 : BitVec 32 := 1#32
  let v461 : BitVec 32 := Scalar.muli v5 c1_i32_743
  let v462 : BitVec 32 := Scalar.addi c0_i32_744 v461
  v462.toNat
def k0_dev31 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_751 : BitVec 32 := 1#32
  let v465 : BitVec 32 := Scalar.muli v7 c1_i32_751
  let v466 : BitVec 32 := Scalar.addi c0_i32_752 v465
  v466.toNat
@[reducible] def k0_t15_loop : Scf.Loop 32 :=
  let c0_i32_761 : BitVec 32 := 0#32
  let c16_i32_762 : BitVec 32 := 16#32
  let v475 : BitVec 32 := Scalar.addi c0_i32_761 c16_i32_762
  let c1_i32_763 : BitVec 32 := 1#32
  ⟨c0_i32_761, v475, c1_i32_763⟩
def k0_off71 (k0_t15 : Fin k0_t15_loop.trips) (c0_i32_806 : BitVec 32) : Fin 3 → Nat :=
  let c0_i32_761 : BitVec 32 := 0#32
  let c1_i32_763 : BitVec 32 := 1#32
  let arg10 : BitVec 32 := Scf.iv c0_i32_761 c1_i32_763 k0_t15
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off72 (k0_t15 : Fin k0_t15_loop.trips) (c0_i32_806 : BitVec 32) : Fin 5 → Nat :=
  let c0_809 : Index := 0#32
  let c0_810 : Index := 0#32
  let c0_i32_761 : BitVec 32 := 0#32
  let c1_i32_763 : BitVec 32 := 1#32
  let arg10 : BitVec 32 := Scf.iv c0_i32_761 c1_i32_763 k0_t15
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![0, 0, v501.toNat, 0, 0]
def k0_off73 (k0_t15 : Fin k0_t15_loop.trips) (c0_i32_806 : BitVec 32) : Fin 5 → Nat :=
  let c0_813 : Index := 0#32
  let c1_814 : Index := 1#32
  let c0_i32_761 : BitVec 32 := 0#32
  let c1_i32_763 : BitVec 32 := 1#32
  let arg10 : BitVec 32 := Scf.iv c0_i32_761 c1_i32_763 k0_t15
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![0, 1, v504.toNat, 0, 0]
def k0_off74 (k0_t15 : Fin k0_t15_loop.trips) (c0_i32_806 : BitVec 32) : Fin 3 → Nat :=
  let c0_i32_761 : BitVec 32 := 0#32
  let c1_i32_763 : BitVec 32 := 1#32
  let arg10 : BitVec 32 := Scf.iv c0_i32_761 c1_i32_763 k0_t15
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off75 (k0_t15 : Fin k0_t15_loop.trips) (c0_i32_806 : BitVec 32) : Fin 3 → Nat :=
  let c0_i32_761 : BitVec 32 := 0#32
  let c1_i32_763 : BitVec 32 := 1#32
  let arg10 : BitVec 32 := Scf.iv c0_i32_761 c1_i32_763 k0_t15
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
@[reducible] def k0_t16_loop : Scf.Loop 32 :=
  let c0_i32_792 : BitVec 32 := 0#32
  let c16_i32_793 : BitVec 32 := 16#32
  let v490 : BitVec 32 := Scalar.addi c0_i32_792 c16_i32_793
  let c1_i32_794 : BitVec 32 := 1#32
  ⟨c0_i32_792, v490, c1_i32_794⟩
def k0_off76 (k0_t16 : Fin k0_t16_loop.trips) (c0_i32_806 : BitVec 32) : Fin 3 → Nat :=
  let c0_i32_792 : BitVec 32 := 0#32
  let c1_i32_794 : BitVec 32 := 1#32
  let arg10 : BitVec 32 := Scf.iv c0_i32_792 c1_i32_794 k0_t16
  let c4_i32_805 : BitVec 32 := 4#32
  let v496 : BitVec 32 := Scalar.muli arg10 c4_i32_805
  let v497 : BitVec 32 := Scalar.addi v496 c0_i32_806
  let v498 : Index := Scalar.indexCast v497
  let c0_807 : Index := 0#32
  let c0_808 : Index := 0#32
  ![v498.toNat, 0, 0]
def k0_off77 (k0_t16 : Fin k0_t16_loop.trips) (c0_i32_806 : BitVec 32) : Fin 5 → Nat :=
  let c1_809 : Index := 1#32
  let c0_810 : Index := 0#32
  let c0_i32_792 : BitVec 32 := 0#32
  let c1_i32_794 : BitVec 32 := 1#32
  let arg10 : BitVec 32 := Scf.iv c0_i32_792 c1_i32_794 k0_t16
  let c4_i32_805 : BitVec 32 := 4#32
  let v496 : BitVec 32 := Scalar.muli arg10 c4_i32_805
  let v497 : BitVec 32 := Scalar.addi v496 c0_i32_806
  let v501 : Index := Scalar.indexCast v497
  let c0_811 : Index := 0#32
  let c0_812 : Index := 0#32
  ![1, 0, v501.toNat, 0, 0]
def k0_off78 (k0_t16 : Fin k0_t16_loop.trips) (c0_i32_806 : BitVec 32) : Fin 5 → Nat :=
  let c1_813 : Index := 1#32
  let c1_814 : Index := 1#32
  let c0_i32_792 : BitVec 32 := 0#32
  let c1_i32_794 : BitVec 32 := 1#32
  let arg10 : BitVec 32 := Scf.iv c0_i32_792 c1_i32_794 k0_t16
  let c4_i32_805 : BitVec 32 := 4#32
  let v496 : BitVec 32 := Scalar.muli arg10 c4_i32_805
  let v497 : BitVec 32 := Scalar.addi v496 c0_i32_806
  let v504 : Index := Scalar.indexCast v497
  let c0_815 : Index := 0#32
  let c0_816 : Index := 0#32
  ![1, 1, v504.toNat, 0, 0]
def k0_off79 (k0_t16 : Fin k0_t16_loop.trips) (c0_i32_806 : BitVec 32) : Fin 3 → Nat :=
  let c0_i32_792 : BitVec 32 := 0#32
  let c1_i32_794 : BitVec 32 := 1#32
  let arg10 : BitVec 32 := Scf.iv c0_i32_792 c1_i32_794 k0_t16
  let c4_i32_805 : BitVec 32 := 4#32
  let v496 : BitVec 32 := Scalar.muli arg10 c4_i32_805
  let v497 : BitVec 32 := Scalar.addi v496 c0_i32_806
  let v512 : Index := Scalar.indexCast v497
  let c0_819 : Index := 0#32
  let c0_820 : Index := 0#32
  ![v512.toNat, 0, 0]
def k0_off80 (k0_t16 : Fin k0_t16_loop.trips) (c0_i32_806 : BitVec 32) : Fin 3 → Nat :=
  let c0_i32_792 : BitVec 32 := 0#32
  let c1_i32_794 : BitVec 32 := 1#32
  let arg10 : BitVec 32 := Scf.iv c0_i32_792 c1_i32_794 k0_t16
  let c4_i32_805 : BitVec 32 := 4#32
  let v496 : BitVec 32 := Scalar.muli arg10 c4_i32_805
  let v497 : BitVec 32 := Scalar.addi v496 c0_i32_806
  let v524 : Index := Scalar.indexCast v497
  let c0_825 : Index := 0#32
  let c0_826 : Index := 0#32
  ![v524.toNat, 0, 0]
abbrev stage0_0 : Fin 1 → Memref sig .tc .vmem S64x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x4096x16x64 : Shape := ⟨4, ![4, 4096, 16, 64]⟩
abbrev S4x16x4096x4096 : Shape := ⟨4, ![4, 16, 4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x16x64, .bf16⟩
  | .hbm, ⟨1, _⟩ => ⟨S4x4096x16x64, .bf16⟩
  | .hbm, ⟨2, _⟩ => ⟨S4x4096x16x64, .bf16⟩
  | .hbm, ⟨3, _⟩ => ⟨S4x4096x16x64, .f32⟩
  | .hbm, ⟨4, _⟩ => ⟨S4x4096x16x64, .f32⟩
  | .hbm, ⟨5, _⟩ => ⟨S4x4096x16x64, .f32⟩
  | .hbm, ⟨6, _⟩ => ⟨S4x16x4096x4096, .f32⟩
  | .hbm, ⟨7, _⟩ => ⟨S_, .f32⟩
  | .hbm, ⟨8, _⟩ => ⟨S4x16x4096x4096, .f32⟩
  | .hbm, ⟨9, _⟩ => ⟨S4x16x4096x4096, .f32⟩
  | .hbm, ⟨10, _⟩ => ⟨S_, .f32⟩
  | .hbm, ⟨11, _⟩ => ⟨S4x16x4096, .f32⟩
  | .hbm, ⟨12, _⟩ => ⟨S4x16x4096x1, .f32⟩
  | .hbm, ⟨13, _⟩ => ⟨S4x16x4096x4096, .f32⟩
  | .hbm, ⟨14, _⟩ => ⟨S4x16x4096x4096, .f32⟩
  | .hbm, ⟨15, _⟩ => ⟨S4x16x4096x4096, .f32⟩
  | .hbm, ⟨16, _⟩ => ⟨S_, .f32⟩
  | .hbm, ⟨17, _⟩ => ⟨S4x16x4096, .f32⟩
  | .hbm, ⟨18, _⟩ => ⟨S4x16x4096x1, .f32⟩
  | .hbm, ⟨19, _⟩ => ⟨S4x16x4096x4096, .f32⟩
  | .hbm, ⟨20, _⟩ => ⟨S4x16x4096x4096, .f32⟩
  | .hbm, ⟨21, _⟩ => ⟨S4x16x64x4096, .f32⟩
  | .hbm, ⟨22, _⟩ => ⟨S4x4096x16x64, .f32⟩
  | _, _ => ⟨S4x4096x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelIdeal.Prog.lean ====
/- The kernel's body put in the order a reader follows it: an entry, then fifteen hops each made of a
   credit exchange (from the second on), a copy, the work on one slot and two waits, then the last
   slot's work and the division.  Nothing here is a different program: every definition below is a
   stretch of the printed one, and `body_eq` says so. -/
module

public import proofs.«01_k».proof.Proof.Gen.KernelIdeal.Skeleton

@[expose] public section

set_option synthInstance.maxSize 4096

noncomputable section

namespace Cert.KernelIdeal.Ring

open Idealize.ShloMosaic Idealize.SL.Sem Cert.KernelIdeal Cert.KernelIdeal.Gen

variable {F : FTy → Type} [FloatOps F]

/-- A program on a core of this mesh. -/
abbrev PR (F : FTy → Type) [FloatOps F] (α : Type) := Prog (TpuEff nD τ sig (Elt F) Λ₀ .tc) α

/-- One attention row: its query block against one key block and one value block. -/
def row (q : Memref sig .tc .vmem S64x256x64 .bf16) (kv : Memref sig .tc .vmem S2x2x64x256x64 .bf16)
    (acc : Memref sig .tc .vmem S64x64x256 .f32) (l : Memref sig .tc .vmem S64x1x256 .f32)
    (oq : Fin 3 → ℕ) (hq : ∀ a, oq a + S1x256x64.size a ≤ S64x256x64.size a)
    (ok : Fin 5 → ℕ) (hk : ∀ a, ok a + S1x1x1x256x64.size a ≤ S2x2x64x256x64.size a)
    (ov : Fin 5 → ℕ) (hv : ∀ a, ov a + S1x1x1x256x64.size a ≤ S2x2x64x256x64.size a)
    (ol : Fin 3 → ℕ) (hl : ∀ a, ol a + S1x1x256.size a ≤ S64x1x256.size a)
    (oa : Fin 3 → ℕ) (ha : ∀ a, oa a + S1x64x256.size a ≤ S64x64x256.size a) : PR F Unit := do
  let q' ← Prog.lift (.load q (Rect.unit (s := S64x256x64) oq S1x256x64.size hq).toLoadRect (View.loadsAt_vmem h_S1x256x64))
  let k' ← Prog.lift (.load kv (Rect.unit (s := S2x2x64x256x64) ok S1x1x1x256x64.size hk).toLoadRect (View.loadsAt_vmem h_S1x1x1x256x64))
  let v' ← Prog.lift (.load kv (Rect.unit (s := S2x2x64x256x64) ov S1x1x1x256x64.size hv).toLoadRect (View.loadsAt_vmem h_S1x1x1x256x64))
  let l' ← Prog.lift (.load l (Rect.unit (s := S64x1x256) ol S1x1x256.size hl).toLoadRect (View.loadsAt_vmem h_S1x1x256))
  let _ ← Prog.lift (.load l (Rect.unit (s := S64x1x256) ol S1x1x256.size hl).toLoadRect (View.loadsAt_vmem h_S1x1x256))
  Prog.lift (.store l (Rect.unit (s := S64x1x256) ol S1x1x256.size hl) (k0_pay2 q' k' l') Finset.univ (View.stores_vmem_bits_univ h_S1x1x256 rfl) (.inl rfl))
  let a' ← Prog.lift (.load acc (Rect.unit (s := S64x64x256) oa S1x64x256.size ha).toLoadRect (View.loadsAt_vmem h_S1x64x256))
  let _ ← Prog.lift (.load acc (Rect.unit (s := S64x64x256) oa S1x64x256.size ha).toLoadRect (View.loadsAt_vmem h_S1x64x256))
  Prog.lift (.store acc (Rect.unit (s := S64x64x256) oa S1x64x256.size ha) (k0_pay4 (k0_pay3 q' k' v' a')) Finset.univ (View.stores_vmem_bits_univ h_S1x64x256 rfl) (.inl rfl))

/-- Row `u` of trip `t` of the work on slot 0. -/
def row0 (q : Memref sig .tc .vmem S64x256x64 .bf16) (kv : Memref sig .tc .vmem S2x2x64x256x64 .bf16)
    (acc : Memref sig .tc .vmem S64x64x256 .f32) (l : Memref sig .tc .vmem S64x1x256 .f32)
    (t : Fin k0_t1_loop.trips) (u : Fin 4) : PR F Unit :=
  row q kv acc l (k0_off1 t (BitVec.ofNat 32 u.val)) (k0_off1_inb t u) (k0_off2 t (BitVec.ofNat 32 u.val)) (k0_off2_inb t u)
    (k0_off3 t (BitVec.ofNat 32 u.val)) (k0_off3_inb t u) (k0_off4 t (BitVec.ofNat 32 u.val)) (k0_off4_inb t u)
    (k0_off5 t (BitVec.ofNat 32 u.val)) (k0_off5_inb t u)

/-- Row `u` of trip `t` of the work on slot 1. -/
def row1 (q : Memref sig .tc .vmem S64x256x64 .bf16) (kv : Memref sig .tc .vmem S2x2x64x256x64 .bf16)
    (acc : Memref sig .tc .vmem S64x64x256 .f32) (l : Memref sig .tc .vmem S64x1x256 .f32)
    (t : Fin k0_t2_loop.trips) (u : Fin 4) : PR F Unit :=
  row q kv acc l (k0_off6 t (BitVec.ofNat 32 u.val)) (k0_off6_inb t u) (k0_off7 t (BitVec.ofNat 32 u.val)) (k0_off7_inb t u)
    (k0_off8 t (BitVec.ofNat 32 u.val)) (k0_off8_inb t u) (k0_off9 t (BitVec.ofNat 32 u.val)) (k0_off9_inb t u)
    (k0_off10 t (BitVec.ofNat 32 u.val)) (k0_off10_inb t u)

/-- The work on slot 0: sixteen trips of four rows. -/
def proc0 (q : Memref sig .tc .vmem S64x256x64 .bf16) (kv : Memref sig .tc .vmem S2x2x64x256x64 .bf16)
    (acc : Memref sig .tc .vmem S64x64x256 .f32) (l : Memref sig .tc .vmem S64x1x256 .f32) : PR F Unit :=
  Scf.Loop.for k0_t1_loop k0_t1_ok ⟨⟩ (fun t _ => do
    row0 q kv acc l t 0; row0 q kv acc l t 1; row0 q kv acc l t 2; row0 q kv acc l t 3)

/-- The work on slot 1. -/
def proc1 (q : Memref sig .tc .vmem S64x256x64 .bf16) (kv : Memref sig .tc .vmem S2x2x64x256x64 .bf16)
    (acc : Memref sig .tc .vmem S64x64x256 .f32) (l : Memref sig .tc .vmem S64x1x256 .f32) : PR F Unit :=
  Scf.Loop.for k0_t2_loop k0_t2_ok ⟨⟩ (fun t _ => do
    row1 q kv acc l t 0; row1 q kv acc l t 1; row1 q kv acc l t 2; row1 q kv acc l t 3)

/-- Slot 0 of the two-slot buffer: one key block and one value block. -/
abbrev slot0 (kv : Memref sig .tc .vmem S2x2x64x256x64 .bf16) : Memref sig .tc .vmem S2x64x256x64 .bf16 :=
  (kv.slice (Rect.unit (s := S2x2x64x256x64) ![0, 0, 0, 0, 0] S1x2x64x256x64.size inb_S2x2x64x256x64_S1x2x64x256x64_0_0_0_0_0) (fun _ => rfl)).squeeze S2x64x256x64 squeezes_S1x2x64x256x64_S2x64x256x64

/-- Slot 1. -/
abbrev slot1 (kv : Memref sig .tc .vmem S2x2x64x256x64 .bf16) : Memref sig .tc .vmem S2x64x256x64 .bf16 :=
  (kv.slice (Rect.unit (s := S2x2x64x256x64) ![1, 0, 0, 0, 0] S1x2x64x256x64.size inb_S2x2x64x256x64_S1x2x64x256x64_1_0_0_0_0) (fun _ => rfl)).squeeze S2x64x256x64 squeezes_S1x2x64x256x64_S2x64x256x64

/-- Hop `h`'s semaphore of an array of fifteen. -/
abbrev dsem (a : DmaSems sig S15) (h : ℕ) (hh : h < 15) : DmaSem sig :=
  ((a.slice (Rect.unit (s := S15) ![h] S1.size (by intro a; fin_cases a; exact hh))).squeeze S_ squeezes_S1_S_).sem

/-- Credit semaphore `h` of an array of fourteen. -/
abbrev csem (a : Sems sig S14) (h : ℕ) (hh : h < 14) : Sem sig :=
  ((a.slice (Rect.unit (s := S14) ![h] S1.size (by intro a; fin_cases a; exact hh))).squeeze S_ squeezes_S1_S_).sem

/-- The device on the right of `d`, as the program computes it. -/
abbrev rightP (d : Dev nD) : Dev nD := ⟨k0_dev3 d, k0_dev3_lt d⟩
/-- The device on the left of `d`, as the program computes it. -/
abbrev leftP (d : Dev nD) : Dev nD := ⟨k0_dev1 d, k0_dev1_lt d⟩

/-- An even hop: slot 0 travels to the right neighbour's slot 1 while this device works on slot 0. -/
def hop0 (q : Memref sig .tc .vmem S64x256x64 .bf16) (kv : Memref sig .tc .vmem S2x2x64x256x64 .bf16) (hkv : kv.IsWhole)
    (acc : Memref sig .tc .vmem S64x64x256 .f32) (l : Memref sig .tc .vmem S64x1x256 .f32)
    (n : Dev nD) (s r : DmaSem sig) : PR F Unit := do
  Prog.lift (.enqueueDma (slot0 kv) (.remote (Dev.tc n) (slot1 kv) (.dma s)) (.dma r) ((hkv.wordExact_slice rfl _ wordsbf16_S2x2x64x256x64_S1x2x64x256x64_0_0_0_0_0).reshape _ _) ((hkv.wordExact_slice rfl _ wordsbf16_S2x2x64x256x64_S1x2x64x256x64_1_0_0_0_0).reshape _ _) ⟨⟨rfl, Or.inl rfl⟩, trivial⟩)
  proc0 q kv acc l
  Prog.lift (.waitDma2 s (slot1 kv) (slot0 kv) ((hkv.wordExact_slice rfl _ wordsbf16_S2x2x64x256x64_S1x2x64x256x64_1_0_0_0_0).reshape _ _) ((hkv.wordExact_slice rfl _ wordsbf16_S2x2x64x256x64_S1x2x64x256x64_0_0_0_0_0).reshape _ _))
  Prog.lift (.waitDma2 r (slot0 kv) (slot1 kv) ((hkv.wordExact_slice rfl _ wordsbf16_S2x2x64x256x64_S1x2x64x256x64_0_0_0_0_0).reshape _ _) ((hkv.wordExact_slice rfl _ wordsbf16_S2x2x64x256x64_S1x2x64x256x64_1_0_0_0_0).reshape _ _))

/-- An odd hop: slot 1 travels to the right neighbour's slot 0 while this device works on slot 1. -/
def hop1 (q : Memref sig .tc .vmem S64x256x64 .bf16) (kv : Memref sig .tc .vmem S2x2x64x256x64 .bf16) (hkv : kv.IsWhole)
    (acc : Memref sig .tc .vmem S64x64x256 .f32) (l : Memref sig .tc .vmem S64x1x256 .f32)
    (n : Dev nD) (s r : DmaSem sig) : PR F Unit := do
  Prog.lift (.enqueueDma (slot1 kv) (.remote (Dev.tc n) (slot0 kv) (.dma s)) (.dma r) ((hkv.wordExact_slice rfl _ wordsbf16_S2x2x64x256x64_S1x2x64x256x64_1_0_0_0_0).reshape _ _) ((hkv.wordExact_slice rfl _ wordsbf16_S2x2x64x256x64_S1x2x64x256x64_0_0_0_0_0).reshape _ _) ⟨⟨rfl, Or.inl rfl⟩, trivial⟩)
  proc1 q kv acc l
  Prog.lift (.waitDma2 s (slot0 kv) (slot1 kv) ((hkv.wordExact_slice rfl _ wordsbf16_S2x2x64x256x64_S1x2x64x256x64_0_0_0_0_0).reshape _ _) ((hkv.wordExact_slice rfl _ wordsbf16_S2x2x64x256x64_S1x2x64x256x64_1_0_0_0_0).reshape _ _))
  Prog.lift (.waitDma2 r (slot1 kv) (slot0 kv) ((hkv.wordExact_slice rfl _ wordsbf16_S2x2x64x256x64_S1x2x64x256x64_1_0_0_0_0).reshape _ _) ((hkv.wordExact_slice rfl _ wordsbf16_S2x2x64x256x64_S1x2x64x256x64_0_0_0_0_0).reshape _ _))

/-- The credit exchange before a hop: tell the left neighbour its target slot is free, and hear the
   same from the right neighbour. -/
def credit (l : Dev nD) (f : Sem sig) : PR F Unit := do
  semSignalWord l f 1#32
  semWaitWord f 1#32

/-- Hops `2k+1` and `2k+2`, each after its credit exchange. -/
def pair (q : Memref sig .tc .vmem S64x256x64 .bf16) (kv : Memref sig .tc .vmem S2x2x64x256x64 .bf16) (hkv : kv.IsWhole)
    (acc : Memref sig .tc .vmem S64x64x256 .f32) (l : Memref sig .tc .vmem S64x1x256 .f32)
    (ss rs : DmaSems sig S15) (fs : Sems sig S14) (d : Dev nD) (k : ℕ) (hk : k < 7) : PR F Unit := do
  credit (leftP d) (csem fs (2 * k) (by omega))
  hop1 q kv hkv acc l (rightP d) (dsem ss (2 * k + 1) (by omega)) (dsem rs (2 * k + 1) (by omega))
  credit (leftP d) (csem fs (2 * k + 1) (by omega))
  hop0 q kv hkv acc l (rightP d) (dsem ss (2 * k + 2) (by omega)) (dsem rs (2 * k + 2) (by omega))

/-- The entry: the barrier with both neighbours. -/
def barP (b : Sem sig) (d : Dev nD) : PR F Unit := do
  semSignalWord (leftP d) b 1#32
  semSignalWord (rightP d) b 1#32
  semWaitWord b 2#32

/-- Filling slot 0 with this device's own blocks and clearing the two accumulators. -/
def fill (k v : Memref sig .tc .vmem S64x256x64 .bf16) (kv : Memref sig .tc .vmem S2x2x64x256x64 .bf16) (hkv : kv.IsWhole)
    (acc : Memref sig .tc .vmem S64x64x256 .f32) (l : Memref sig .tc .vmem S64x1x256 .f32) : PR F Unit := do
  let v13 ← Prog.lift (.load k (Rect.unit (s := S64x256x64) ![0, 0, 0] S64x256x64.size inb_S64x256x64_S64x256x64_0_0_0).toLoadRect (View.loadsAt_vmem h_S64x256x64))
  let _ ← Prog.lift (.load kv (Rect.unit (s := S2x2x64x256x64) ![0, 0, 0, 0, 0] S1x1x64x256x64.size inb_S2x2x64x256x64_S1x1x64x256x64_0_0_0_0_0).toLoadRect (View.loadsAt_vmem h_S1x1x64x256x64))
  Prog.lift (.store kv (Rect.unit (s := S2x2x64x256x64) ![0, 0, 0, 0, 0] S1x1x64x256x64.size inb_S2x2x64x256x64_S1x1x64x256x64_0_0_0_0_0) (k0_pay241 v13) Finset.univ (View.stores_vmem h_S1x1x64x256x64 (hkv.storeExact_slice rfl _ packedbf16_S2x2x64x256x64_S1x1x64x256x64_0_0_0_0_0) (fun _ => rfl)) (.inl rfl))
  let v18 ← Prog.lift (.load v (Rect.unit (s := S64x256x64) ![0, 0, 0] S64x256x64.size inb_S64x256x64_S64x256x64_0_0_0).toLoadRect (View.loadsAt_vmem h_S64x256x64))
  let _ ← Prog.lift (.load kv (Rect.unit (s := S2x2x64x256x64) ![0, 1, 0, 0, 0] S1x1x64x256x64.size inb_S2x2x64x256x64_S1x1x64x256x64_0_1_0_0_0).toLoadRect (View.loadsAt_vmem h_S1x1x64x256x64))
  Prog.lift (.store kv (Rect.unit (s := S2x2x64x256x64) ![0, 1, 0, 0, 0] S1x1x64x256x64.size inb_S2x2x64x256x64_S1x1x64x256x64_0_1_0_0_0) (k0_pay242 v18) Finset.univ (View.stores_vmem h_S1x1x64x256x64 (hkv.storeExact_slice rfl _ packedbf16_S2x2x64x256x64_S1x1x64x256x64_0_1_0_0_0) (fun _ => rfl)) (.inl rfl))
  let _ ← Prog.lift (.load l (Rect.unit (s := S64x1x256) ![0, 0, 0] S64x1x256.size inb_S64x1x256_S64x1x256_0_0_0).toLoadRect (View.loadsAt_vmem h_S64x1x256))
  Prog.lift (.store l (Rect.unit (s := S64x1x256) ![0, 0, 0] S64x1x256.size inb_S64x1x256_S64x1x256_0_0_0) (k0_pay243 (F := F)) Finset.univ (View.stores_vmem_bits_univ h_S64x1x256 rfl) (.inl rfl))
  let _ ← Prog.lift (.load acc (Rect.unit (s := S64x64x256) ![0, 0, 0] S64x64x256.size inb_S64x64x256_S64x64x256_0_0_0).toLoadRect (View.loadsAt_vmem h_S64x64x256))
  Prog.lift (.store acc (Rect.unit (s := S64x64x256) ![0, 0, 0] S64x64x256.size inb_S64x64x256_S64x64x256_0_0_0) (k0_pay244 (F := F)) Finset.univ (View.stores_vmem_bits_univ h_S64x64x256 rfl) (.inl rfl))

/-- The exit: the accumulator divided by the weights' sum, stored. -/
def finish (o acc : Memref sig .tc .vmem S64x64x256 .f32) (l : Memref sig .tc .vmem S64x1x256 .f32) : PR F PUnit := do
  let a' ← Prog.lift (.load acc (Rect.unit (s := S64x64x256) ![0, 0, 0] S64x64x256.size inb_S64x64x256_S64x64x256_0_0_0).toLoadRect (View.loadsAt_vmem h_S64x64x256))
  let l' ← Prog.lift (.load l (Rect.unit (s := S64x1x256) ![0, 0, 0] S64x1x256.size inb_S64x1x256_S64x1x256_0_0_0).toLoadRect (View.loadsAt_vmem h_S64x1x256))
  let _ ← Prog.lift (.load o (Rect.unit (s := S64x64x256) ![0, 0, 0] S64x64x256.size inb_S64x64x256_S64x64x256_0_0_0).toLoadRect (View.loadsAt_vmem h_S64x64x256))
  Prog.lift (.store o (Rect.unit (s := S64x64x256) ![0, 0, 0] S64x64x256.size inb_S64x64x256_S64x64x256_0_0_0) (k0_pay261 a' l') Finset.univ (View.stores_vmem_bits_univ h_S64x64x256 rfl) (.inl rfl))

section
variable (arg0 : Memref sig .tc .vmem S64x256x64 .bf16) (harg0 : arg0.IsWhole) (arg1 : Memref sig .tc .vmem S64x256x64 .bf16) (harg1 : arg1.IsWhole) (arg2 : Memref sig .tc .vmem S64x256x64 .bf16) (harg2 : arg2.IsWhole) (arg3 : Memref sig .tc .vmem S64x64x256 .f32) (harg3 : arg3.IsWhole) (arg4 : Memref sig .tc .vmem S2x2x64x256x64 .bf16) (harg4 : arg4.IsWhole) (arg5 : Memref sig .tc .vmem S64x64x256 .f32) (harg5 : arg5.IsWhole) (arg6 : Memref sig .tc .vmem S64x1x256 .f32) (harg6 : arg6.IsWhole) (arg7 : DmaSems sig S15) (arg8 : DmaSems sig S15) (arg9 : Sems sig S14)

theorem loop1 (d0 : Dev nD) (v7 : BitVec 32) :
    Scf.Loop.for k0_t1_loop k0_t1_ok ⟨⟩ (k0_t1_body (F := F) arg0 harg0 arg1 harg1 arg2 harg2 arg3 harg3 arg4 harg4 arg5 harg5 arg6 harg6 arg7 arg8 arg9 d0 v7) = proc0 arg0 arg4 arg5 arg6 := rfl
theorem loop2 (d0 : Dev nD) (v7 : BitVec 32) :
    Scf.Loop.for k0_t2_loop k0_t2_ok ⟨⟩ (k0_t2_body (F := F) arg0 harg0 arg1 harg1 arg2 harg2 arg3 harg3 arg4 harg4 arg5 harg5 arg6 harg6 arg7 arg8 arg9 d0 v7) = proc1 arg0 arg4 arg5 arg6 := rfl
theorem loop3 (d0 : Dev nD) (v5 v7 : BitVec 32) :
    Scf.Loop.for k0_t3_loop k0_t3_ok ⟨⟩ (k0_t3_body (F := F) arg0 harg0 arg1 harg1 arg2 harg2 arg3 harg3 arg4 harg4 arg5 harg5 arg6 harg6 arg7 arg8 arg9 d0 v5 v7) = proc0 arg0 arg4 arg5 arg6 := rfl
theorem loop4 (d0 : Dev nD) (v7 : BitVec 32) :
    Scf.Loop.for k0_t4_loop k0_t4_ok ⟨⟩ (k0_t4_body (F := F) arg0 harg0 arg1 harg1 arg2 harg2 arg3 harg3 arg4 harg4 arg5 harg5 arg6 harg6 arg7 arg8 arg9 d0 v7) = proc1 arg0 arg4 arg5 arg6 := rfl
theorem loop5 (d0 : Dev nD) (v5 v7 : BitVec 32) :
    Scf.Loop.for k0_t5_loop k0_t5_ok ⟨⟩ (k0_t5_body (F := F) arg0 harg0 arg1 harg1 arg2 harg2 arg3 harg3 arg4 harg4 arg5 harg5 arg6 harg6 arg7 arg8 arg9 d0 v5 v7) = proc0 arg0 arg4 arg5 arg6 := rfl
theorem loop6 (d0 : Dev nD) (v7 : BitVec 32) :
    Scf.Loop.for k0_t6_loop k0_t6_ok ⟨⟩ (k0_t6_body (F := F) arg0 harg0 arg1 harg1 arg2 harg2 arg3 harg3 arg4 harg4 arg5 harg5 arg6 harg6 arg7 arg8 arg9 d0 v7) = proc1 arg0 arg4 arg5 arg6 := rfl
theorem loop7 (d0 : Dev nD) (v5 v7 : BitVec 32) :
    Scf.Loop.for k0_t7_loop k0_t7_ok ⟨⟩ (k0_t7_body (F := F) arg0 harg0 arg1 harg1 arg2 harg2 arg3 harg3 arg4 harg4 arg5 harg5 arg6 harg6 arg7 arg8 arg9 d0 v5 v7) = proc0 arg0 arg4 arg5 arg6 := rfl
theorem loop8 (d0 : Dev nD) (v7 : BitVec 32) :
    Scf.Loop.for k0_t8_loop k0_t8_ok ⟨⟩ (k0_t8_body (F := F) arg0 harg0 arg1 harg1 arg2 harg2 arg3 harg3 arg4 harg4 arg5 harg5 arg6 harg6 arg7 arg8 arg9 d0 v7) = proc1 arg0 arg4 arg5 arg6 := rfl
theorem loop9 (d0 : Dev nD) (v5 v7 x : BitVec 32) :
    Scf.Loop.for k0_t9_loop k0_t9_ok ⟨⟩ (k0_t9_body (F := F) arg0 harg0 arg1 harg1 arg2 harg2 arg3 harg3 arg4 harg4 arg5 harg5 arg6 harg6 arg7 arg8 arg9 d0 v5 v7 x) = proc0 arg0 arg4 arg5 arg6 := rfl
theorem loop10 (d0 : Dev nD) (v5 v7 : BitVec 32) :
    Scf.Loop.for k0_t10_loop k0_t10_ok ⟨⟩ (k0_t10_body (F := F) arg0 harg0 arg1 harg1 arg2 harg2 arg3 harg3 arg4 harg4 arg5 harg5 arg6 harg6 arg7 arg8 arg9 d0 v5 v7) = proc1 arg0 arg4 arg5 arg6 := rfl
theorem loop11 (d0 : Dev nD) (v7 x y : BitVec 32) :
    Scf.Loop.for k0_t11_loop k0_t11_ok ⟨⟩ (k0_t11_body (F := F) arg0 harg0 arg1 harg1 arg2 harg2 arg3 harg3 arg4 harg4 arg5 harg5 arg6 harg6 arg7 arg8 arg9 d0 v7 x y) = proc0 arg0 arg4 arg5 arg6 := rfl
theorem loop12 (d0 : Dev nD) (v5 v7 : BitVec 32) :
    Scf.Loop.for k0_t12_loop k0_t12_ok ⟨⟩ (k0_t12_body (F := F) arg0 harg0 arg1 harg1 arg2 harg2 arg3 harg3 arg4 harg4 arg5 harg5 arg6 harg6 arg7 arg8 arg9 d0 v5 v7) = proc1 arg0 arg4 arg5 arg6 := rfl
theorem loop13 (d0 : Dev nD) (v7 : BitVec 32) :
    Scf.Loop.for k0_t13_loop k0_t13_ok ⟨⟩ (k0_t13_body (F := F) arg0 harg0 arg1 harg1 arg2 harg2 arg3 harg3 arg4 harg4 arg5 harg5 arg6 harg6 arg7 arg8 arg9 d0 v7) = proc0 arg0 arg4 arg5 arg6 := rfl
theorem loop14 (d0 : Dev nD) (v5 v7 : BitVec 32) :
    Scf.Loop.for k0_t14_loop k0_t14_ok ⟨⟩ (k0_t14_body (F := F) arg0 harg0 arg1 harg1 arg2 harg2 arg3 harg3 arg4 harg4 arg5 harg5 arg6 harg6 arg7 arg8 arg9 d0 v5 v7) = proc1 arg0 arg4 arg5 arg6 := rfl
theorem loop15 (d0 : Dev nD) (v7 : BitVec 32) :
    Scf.Loop.for k0_t15_loop k0_t15_ok ⟨⟩ (k0_t15_body (F := F) arg0 harg0 arg1 harg1 arg2 harg2 arg3 harg3 arg4 harg4 arg5 harg5 arg6 harg6 arg7 arg8 arg9 d0 v7) = proc0 arg0 arg4 arg5 arg6 := rfl
theorem loop16  :
    Scf.Loop.for k0_t16_loop k0_t16_ok ⟨⟩ (k0_t16_body (F := F) arg0 harg0 arg1 harg1 arg2 harg2 arg3 harg3 arg4 harg4 arg5 harg5 arg6 harg6 arg7 arg8 arg9 ) = proc1 arg0 arg4 arg5 arg6 := rfl

/-- The whole body, hop by hop. -/
def prog : PR F PUnit := do
  let d ← Prog.lift .deviceId
  barP ((SemArray.scalar (sig.barrier 0 rfl) : Sems sig S_).sem) d
  fill arg1 arg2 arg4 harg4 arg5 arg6
  hop0 arg0 arg4 harg4 arg5 arg6 (rightP d) (dsem arg7 0 (by omega)) (dsem arg8 0 (by omega))
  pair arg0 arg4 harg4 arg5 arg6 arg7 arg8 arg9 d 0 (by omega)
  pair arg0 arg4 harg4 arg5 arg6 arg7 arg8 arg9 d 1 (by omega)
  pair arg0 arg4 harg4 arg5 arg6 arg7 arg8 arg9 d 2 (by omega)
  pair arg0 arg4 harg4 arg5 arg6 arg7 arg8 arg9 d 3 (by omega)
  pair arg0 arg4 harg4 arg5 arg6 arg7 arg8 arg9 d 4 (by omega)
  pair arg0 arg4 harg4 arg5 arg6 arg7 arg8 arg9 d 5 (by omega)
  pair arg0 arg4 harg4 arg5 arg6 arg7 arg8 arg9 d 6 (by omega)
  proc1 arg0 arg4 arg5 arg6
  finish arg3 arg5 arg6

set_option maxRecDepth 65536 in
/-- The printed body is that program. -/
theorem body_eq : cc0_body (F := F) arg0 harg0 arg1 harg1 arg2 harg2 arg3 harg3 arg4 harg4 arg5 harg5 arg6 harg6 arg7 arg8 arg9
    = prog arg0 arg1 arg2 arg3 arg4 harg4 arg5 arg6 arg7 arg8 arg9 := by
  simp only [cc0_body_eq_skeleton, cc0_body_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel,
    loop1, loop2, loop3, loop4, loop5, loop6, loop7, loop8, loop9, loop10, loop11, loop12, loop13, loop14, loop15, loop16, bind_assoc, pure_bind]
  simp only [prog, barP, fill, hop0, hop1, credit, pair, finish, bind_assoc, pure_bind]
  rfl

end

end Cert.KernelIdeal.Ring

end
-- ==== Proof.KernelIdeal.Work.lean ====
/- What one device's memory work does to its buffers: rows, the two slots' passes, the filling and the
   division, each as a triple over memrefs owned at contents. -/
module

public import proofs.«01_k».proof.Proof.KernelIdeal.Prog
public import Idealize.ShloMosaic.Lib.Rounds
public import Idealize.ShloMosaic.Lib.Tactic
public import Idealize.ShloMosaic.Lib.MemrefSat
public import Idealize.ShloMosaic.Lib.ValueIdxCore
public import Idealize.ShloMosaic.Lib.ValueLayout
public import Idealize.ShloMosaic.Lib.Pipeline.Kit
public import Idealize.ShloMosaic.Lib.Pipeline.ValueKit.Geometry
public import Idealize.ShloMosaic.Lib.Writes
public import Idealize.ShloMosaic.Lib.Scf

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-- The ghost state: the pipeline's, and the rounds of this kernel's semaphore cells (a barrier cell
    has two duties a round, named by a `Bool`). -/
abbrev UU : Type := Idealize.ShloMosaic.UR sig nD τ × URounds (GSem nD τ sig) Bool

local notation "𝕄" => MT nD τ sig Unit (Elt F) ℕ UU ℕ

/-- No loop of the kernel needs a variant. -/
abbrev 𝒱₀ : Variants := Variants.none

/-! ## Loads and stores of owned memrefs -/

section Rules
variable (c : Dev nD) {s : Shape} {e : EltTy}

/-- A load from an owned memref reads the owned contents. -/
theorem load_owns (m : Memref sig .tc .vmem s e) (q : PosShare TreeShare) (X : s.Idx → Elt F e) (r : Rect s)
    {hl : m.view.LoadsAt r.toLoadRect} {α : Type} {Q : α → sProp 𝕄} {k : (r.shape.Idx → Elt F e) → PR F α} :
    (owns (c : Thread nD τ) m q X : sProp 𝕄)
      ⊢ iprop((owns (c : Thread nD τ) m q X -∗ wp frame (wpE (defs₀ (F := F)) 𝒱₀ (c : Thread nD τ) none) Set.univ (k (fun j => X (r.emb j))) Q)
        -∗ wp frame (wpE (defs₀ (F := F)) 𝒱₀ (c : Thread nD τ) none) Set.univ (.op (.load m r.toLoadRect hl) k) Q) := by
  unfold owns
  iintro ⟨%f, %hf, H⟩ HK
  iapply (wp_load_rect 𝒱₀ (c : Thread nD τ) none Set.univ (m := m) (r := r) (S := m.view.set) (View.set_slice_subset m.view r)) $$ H
  iintro H
  have h : (m.access r).read (Elt F) f = fun j => X (r.emb j) := by rw [← hf]; rfl
  rw [h]
  iapply HK
  iexists f
  isplitr; · ipureintro; exact hf
  iexact H

/-- A store of a whole rectangle into an owned memref overlays the payload. -/
theorem store_owns (m : Memref sig .tc .vmem s e) (X : s.Idx → Elt F e) (r : Rect s) (w : r.shape.Idx → Elt F e)
    {hx : (m.access r).Stores Finset.univ} {hm : (Finset.univ : Finset r.shape.Idx) = Finset.univ ∨ ∀ a, r.stride a = 1} {α : Type} {Q : α → sProp 𝕄} {k : PUnit → PR F α} :
    (owns (c : Thread nD τ) m fullShare X : sProp 𝕄)
      ⊢ iprop((owns (c : Thread nD τ) m fullShare (r.overlay X w) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ HK
  iapply (wp_store 𝒱₀ (c : Thread nD τ) none Set.univ (m := m) (r := r) (S := m.view.set) (View.set_slice_subset m.view r)) $$ H
  iintro H
  iapply HK
  iexists _
  isplitr [H]
  · ipureintro
    show m.view.read (Elt F) ((m.view.slice r).write (Elt F) f w Finset.univ) = _
    funext y
    by_cases hy : y ∈ r.set
    · obtain ⟨x, rfl⟩ : ∃ x, r.emb x = y := r.exists_idx_of_mem hy
      rw [View.read_slice_write_emb r _ w (Finset.mem_univ x), Rect.overlay_emb]
    · rw [View.read_slice_write_of_not_mem r _ _ _ (by rw [Rect.map_emb_univ]; exact hy), Rect.overlay_of_not_mem r X w hy, ← hf]
  · iexact H

end Rules

/-! ## Slots -/

theorem slotG_inb (s : Fin 2) : ∀ a, (![s.val, 0, 0, 0, 0] : Fin 5 → ℕ) a + S1x2x64x256x64.size a ≤ S2x2x64x256x64.size a := by
  intro a; fin_cases s <;> fin_cases a <;> decide

/-- Slot `s` of the two-slot buffer. -/
abbrev slotG (kv : Memref sig .tc .vmem S2x2x64x256x64 .bf16) (s : Fin 2) : Memref sig .tc .vmem S2x64x256x64 .bf16 :=
  (kv.slice (Rect.unit (s := S2x2x64x256x64) ![s.val, 0, 0, 0, 0] S1x2x64x256x64.size (slotG_inb s)) (fun _ => rfl)).squeeze S2x64x256x64 squeezes_S1x2x64x256x64_S2x64x256x64

/-- A slot's element in the buffer. -/
def slotIx (s : Fin 2) (y : S2x64x256x64.Idx) : S2x2x64x256x64.Idx := ix5 s (y 0) (y 1) (y 2) (y 3)

theorem slotRect_emb (s : Fin 2) (y : S2x64x256x64.Idx) :
    (Rect.unit (s := S2x2x64x256x64) ![s.val, 0, 0, 0, 0] S1x2x64x256x64.size (slotG_inb s)).emb
      (Shape.reshapeEquiv (squeezes_S1x2x64x256x64_S2x64x256x64).numel_eq y) = slotIx s y := by
  rw [Shape.reshapeEquiv_cons_one]
  funext a
  apply Fin.ext
  rw [Rect.emb_apply]
  match a with
  | ⟨0, _⟩ => show s.val + 1 * 0 = s.val; omega
  | ⟨1, _⟩ => show 0 + 1 * (y 0).val = (y 0).val; omega
  | ⟨2, _⟩ => show 0 + 1 * (y 1).val = (y 1).val; omega
  | ⟨3, _⟩ => show 0 + 1 * (y 2).val = (y 2).val; omega
  | ⟨4, _⟩ => show 0 + 1 * (y 3).val = (y 3).val; omega

theorem slotG_emb (kv : Memref sig .tc .vmem S2x2x64x256x64 .bf16) (s : Fin 2) (y : S2x64x256x64.Idx) :
    (slotG kv s).view.emb y = kv.view.emb (slotIx s y) := by
  rw [← slotRect_emb]; rfl

theorem slotG_read (kv : Memref sig .tc .vmem S2x2x64x256x64 .bf16) (s : Fin 2) (f : (slotG kv s).view.ty.Contents (Elt F)) (y : S2x64x256x64.Idx) :
    (slotG kv s).view.read (Elt F) f y = kv.view.read (Elt F) f (slotIx s y) := by
  rw [← slotRect_emb]; rfl

theorem slotG_mem (kv : Memref sig .tc .vmem S2x2x64x256x64 .bf16) (s : Fin 2) (r : Rect S2x2x64x256x64) (g : r.shape.Idx → S2x64x256x64.Idx)
    (hg : ∀ j, r.emb j = slotIx s (g j)) : (kv.access r).set ⊆ (slotG kv s).view.set := by
  intro x hx
  obtain ⟨j, -, rfl⟩ := Finset.mem_map.mp hx
  refine Finset.mem_map.mpr ⟨g j, Finset.mem_univ _, ?_⟩
  rw [slotG_emb, ← hg]; rfl

section SlotRules
variable (c : Dev nD)

/-- A load from inside an owned slot, by the buffer's own coordinates. -/
theorem load_slot (kv : Memref sig .tc .vmem S2x2x64x256x64 .bf16) (s : Fin 2) (q : PosShare TreeShare) (D : S2x64x256x64.Idx → Elt F .bf16)
    (r : Rect S2x2x64x256x64) (g : r.shape.Idx → S2x64x256x64.Idx) (hg : ∀ j, r.emb j = slotIx s (g j))
    {hl : kv.view.LoadsAt r.toLoadRect} {α : Type} {Q : α → sProp 𝕄} {k : (r.shape.Idx → Elt F .bf16) → PR F α} :
    (owns (c : Thread nD τ) (slotG kv s) q D : sProp 𝕄)
      ⊢ iprop((owns (c : Thread nD τ) (slotG kv s) q D -∗ wp frame (wpE (defs₀ (F := F)) 𝒱₀ (c : Thread nD τ) none) Set.univ (k (fun j => D (g j))) Q)
        -∗ wp frame (wpE (defs₀ (F := F)) 𝒱₀ (c : Thread nD τ) none) Set.univ (.op (.load kv r.toLoadRect hl) k) Q) := by
  unfold owns
  iintro ⟨%f, %hf, H⟩ HK
  iapply (wp_load_rect 𝒱₀ (c : Thread nD τ) none Set.univ (m := kv) (r := r) (S := (slotG kv s).view.set) (f := f) (q := q) (slotG_mem kv s r g hg)) $$ H
  iintro H
  have h : (kv.access r).read (Elt F) f = fun j => D (g j) := by
    funext j
    rw [← hf, slotG_read, ← hg]; rfl
  rw [h]
  iapply HK
  iexists f
  isplitr; · ipureintro; exact hf
  iexact H

/-- A store inside an owned slot, by the buffer's own coordinates. -/
theorem store_slot (kv : Memref sig .tc .vmem S2x2x64x256x64 .bf16) (s : Fin 2) (D D' : S2x64x256x64.Idx → Elt F .bf16)
    (r : Rect S2x2x64x256x64) (g : r.shape.Idx → S2x64x256x64.Idx) (hg : ∀ j, r.emb j = slotIx s (g j)) (w : r.shape.Idx → Elt F .bf16)
    (hin : ∀ j, D' (g j) = w j) (hout : ∀ y, (∀ j, g j ≠ y) → D' y = D y)
    {hx : (kv.access r).Stores Finset.univ} {hm : (Finset.univ : Finset r.shape.Idx) = Finset.univ ∨ ∀ a, r.stride a = 1} {α : Type} {Q : α → sProp 𝕄} {k : PUnit → PR F α} :
    (owns (c : Thread nD τ) (slotG kv s) fullShare D : sProp 𝕄)
      ⊢ iprop((owns (c : Thread nD τ) (slotG kv s) fullShare D' -∗ wp frame (wpE (defs₀ (F := F)) 𝒱₀ (c : Thread nD τ) none) Set.univ (k ⟨⟩) Q)
        -∗ wp frame (wpE (defs₀ (F := F)) 𝒱₀ (c : Thread nD τ) none) Set.univ (.op (.store kv r w Finset.univ hx hm) k) Q) := by
  unfold owns
  iintro ⟨%f, %hf, H⟩ HK
  iapply (wp_store 𝒱₀ (c : Thread nD τ) none Set.univ (m := kv) (r := r) (S := (slotG kv s).view.set) (f := f) (slotG_mem kv s r g hg)) $$ H
  iintro H
  iapply HK
  iexists _
  isplitr [H]
  · ipureintro
    show (slotG kv s).view.read (Elt F) ((kv.view.slice r).write (Elt F) f w Finset.univ) = _
    funext y
    rw [slotG_read]
    by_cases hy : ∃ j, g j = y
    · obtain ⟨j, rfl⟩ := hy
      rw [← hg, View.read_slice_write_emb r _ w (Finset.mem_univ j), hin]
    · push Not at hy
      have hn : slotIx s y ∉ r.set := by
        intro hmem
        obtain ⟨j, hj⟩ : ∃ x, r.emb x = slotIx s y := r.exists_idx_of_mem hmem
        rw [hg] at hj
        apply hy j
        rw [eq_ix4 y, eq_ix4 (g j)]
        have e0 := congrFun hj 1; have e1 := congrFun hj 2; have e2 := congrFun hj 3; have e3 := congrFun hj 4
        have e0 : g j 0 = y 0 := e0
        have e1 : g j 1 = y 1 := e1
        have e2 : g j 2 = y 2 := e2
        have e3 : g j 3 = y 3 := e3
        rw [e0, e1, e2, e3]
      rw [View.read_slice_write_of_not_mem r _ _ _ (by rw [Rect.map_emb_univ]; exact hn), hout y hy, ← hf, slotG_read]
  · iexact H

end SlotRules

/-! ## One row -/

/-- Row `i` of the queries. -/
def qRow (X : S64x256x64.Idx → Elt F .bf16) (i : Fin 64) : S1x256x64.Idx → Elt F .bf16 := fun x => X (ix3 i (x 1) (x 2))
/-- Row `i` of a slot's keys (`b = 0`) or values (`b = 1`). -/
def kRow (D : S2x64x256x64.Idx → Elt F .bf16) (b : Fin 2) (i : Fin 64) : S1x1x1x256x64.Idx → Elt F .bf16 := fun x => D (ix4 b i (x 3) (x 4))
/-- Row `i` of the weights' sums. -/
def lRow (L : S64x1x256.Idx → Elt F .f32) (i : Fin 64) : S1x1x256.Idx → Elt F .f32 := fun x => L (ix3 i (x 1) (x 2))
/-- Row `i` of the accumulator. -/
def aRow (A : S64x64x256.Idx → Elt F .f32) (i : Fin 64) : S1x64x256.Idx → Elt F .f32 := fun x => A (ix3 i (x 1) (x 2))

/-- The weights' sums after a slot's pass. -/
def lNew (X : S64x256x64.Idx → Elt F .bf16) (D : S2x64x256x64.Idx → Elt F .bf16) (L : S64x1x256.Idx → Elt F .f32) : S64x1x256.Idx → Elt F .f32 :=
  fun y => k0_pay2 (qRow X (y 0)) (kRow D 0 (y 0)) (lRow L (y 0)) (ix3 0 (y 1) (y 2))
/-- The accumulator after a slot's pass. -/
def aNew (X : S64x256x64.Idx → Elt F .bf16) (D : S2x64x256x64.Idx → Elt F .bf16) (A : S64x64x256.Idx → Elt F .f32) : S64x64x256.Idx → Elt F .f32 :=
  fun y => k0_pay4 (k0_pay3 (qRow X (y 0)) (kRow D 0 (y 0)) (kRow D 1 (y 0)) (aRow A (y 0))) (ix3 0 (y 1) (y 2))

/-- `B` on the rows below `n`, `A` on the others. -/
def upto {d : Fin 2 → ℕ} {β : Type} (n : ℕ) (B A : (⟨3, ![64, d 0, d 1]⟩ : Shape).Idx → β) : (⟨3, ![64, d 0, d 1]⟩ : Shape).Idx → β :=
  fun y => if (y 0).val < n then B y else A y

/-- `upto` on the accumulator's shape, and on the weights' sums'. -/
abbrev aUp (n : ℕ) (B A : S64x64x256.Idx → Elt F .f32) : S64x64x256.Idx → Elt F .f32 := upto (d := ![64, 256]) n B A
abbrev lUp (n : ℕ) (B A : S64x1x256.Idx → Elt F .f32) : S64x1x256.Idx → Elt F .f32 := upto (d := ![1, 256]) n B A

theorem row_inb3 (i : Fin 64) (a b : ℕ) : ∀ x, (![i.val, 0, 0] : Fin 3 → ℕ) x + (⟨3, ![1, a, b]⟩ : Shape).size x ≤ (⟨3, ![64, a, b]⟩ : Shape).size x := by
  intro x
  match x with
  | ⟨0, _⟩ => show i.val + 1 ≤ 64; omega
  | ⟨1, _⟩ => show 0 + a ≤ a; omega
  | ⟨2, _⟩ => show 0 + b ≤ b; omega

theorem row3_emb (i : Fin 64) {a b : ℕ} (h) (x : (⟨3, ![1, a, b]⟩ : Shape).Idx) :
    (Rect.unit (s := (⟨3, ![64, a, b]⟩ : Shape)) ![i.val, 0, 0] (⟨3, ![1, a, b]⟩ : Shape).size h).emb x = ix3 i (x 1) (x 2) := by
  funext y
  apply Fin.ext
  rw [Rect.emb_apply]
  match y with
  | ⟨0, _⟩ =>
    show i.val + 1 * (x 0).val = i.val
    have h0 : (x 0).val < 1 := (x 0).isLt
    omega
  | ⟨1, _⟩ => show 0 + 1 * (x 1).val = (x 1).val; omega
  | ⟨2, _⟩ => show 0 + 1 * (x 2).val = (x 2).val; omega

theorem row5_emb (s b : Fin 2) (i : Fin 64) (h) (x : S1x1x1x256x64.Idx) :
    (Rect.unit (s := S2x2x64x256x64) ![s.val, b.val, i.val, 0, 0] S1x1x1x256x64.size h).emb x = slotIx s (ix4 b i (x 3) (x 4)) := by
  funext y
  apply Fin.ext
  rw [Rect.emb_apply]
  match y with
  | ⟨0, _⟩ =>
    show s.val + 1 * (x 0).val = s.val
    have h0 : (x 0).val < 1 := (x 0).isLt
    omega
  | ⟨1, _⟩ =>
    show b.val + 1 * (x 1).val = b.val
    have h0 : (x 1).val < 1 := (x 1).isLt
    omega
  | ⟨2, _⟩ =>
    show i.val + 1 * (x 2).val = i.val
    have h0 : (x 2).val < 1 := (x 2).isLt
    omega
  | ⟨3, _⟩ => show 0 + 1 * (x 3).val = (x 3).val; omega
  | ⟨4, _⟩ => show 0 + 1 * (x 4).val = (x 4).val; omega

theorem ix3_row {a b : ℕ} (x : (⟨3, ![1, a, b]⟩ : Shape).Idx) : x = ix3 (0 : Fin 1) (x 1) (x 2) := by
  have h0 : (x 0 : Fin 1) = (0 : Fin 1) := Subsingleton.elim (α := Fin 1) _ _
  refine (eq_ix3 x).trans ?_
  exact congrArg (fun z : Fin 1 => ix3 z (x 1) (x 2)) h0

/-- Overlaying row `i` of `B` on the rows below `i` makes the rows below `i + 1`. -/
theorem upto_overlay {d : Fin 2 → ℕ} {β : Type} (i : Fin 64) (h) (B A : (⟨3, ![64, d 0, d 1]⟩ : Shape).Idx → β)
    (w : (⟨3, ![1, d 0, d 1]⟩ : Shape).Idx → β) (hw : ∀ x, w x = B (ix3 i (x 1) (x 2))) :
    (Rect.unit (s := (⟨3, ![64, d 0, d 1]⟩ : Shape)) ![i.val, 0, 0] (⟨3, ![1, d 0, d 1]⟩ : Shape).size h).overlay (upto i.val B A) w
      = upto (i.val + 1) B A := by
  funext y
  by_cases hy : y 0 = i
  · have e : (Rect.unit (s := (⟨3, ![64, d 0, d 1]⟩ : Shape)) ![i.val, 0, 0] (⟨3, ![1, d 0, d 1]⟩ : Shape).size h).emb (ix3 (0 : Fin 1) (y 1) (y 2)) = y := by
      refine (row3_emb i h (ix3 (0 : Fin 1) (y 1) (y 2))).trans ?_
      rw [← hy]; exact (eq_ix3 y).symm
    rw [← e, Rect.overlay_emb, hw, e]
    unfold upto
    rw [if_pos (by rw [hy]; omega)]
    show B (ix3 i (y 1) (y 2)) = B y
    rw [← hy]
    exact congrArg B (eq_ix3 y).symm
  · have hne : (y 0).val ≠ i.val := fun hh => hy (Fin.ext hh)
    rw [Rect.overlay_of_not_mem]
    · unfold upto
      by_cases hlt : (y 0).val < i.val
      · rw [if_pos hlt, if_pos (by omega)]
      · rw [if_neg hlt, if_neg (by omega)]
    · intro hm
      obtain ⟨x, hx⟩ : ∃ x, (Rect.unit (s := (⟨3, ![64, d 0, d 1]⟩ : Shape)) ![i.val, 0, 0] (⟨3, ![1, d 0, d 1]⟩ : Shape).size h).emb x = y :=
        LoadRect.exists_idx_of_mem _ hm
      have hx' := (row3_emb i h x).symm.trans hx
      exact hy (congrFun hx' 0).symm

/-- What the buffers hold before row `n` of a pass over slot `s`. -/
def passI (c : Dev nD) (q : Memref sig .tc .vmem S64x256x64 .bf16) (kv : Memref sig .tc .vmem S2x2x64x256x64 .bf16)
    (acc : Memref sig .tc .vmem S64x64x256 .f32) (l : Memref sig .tc .vmem S64x1x256 .f32) (qq qs : PosShare TreeShare) (s : Fin 2)
    (X : S64x256x64.Idx → Elt F .bf16) (D : S2x64x256x64.Idx → Elt F .bf16) (A : S64x64x256.Idx → Elt F .f32) (L : S64x1x256.Idx → Elt F .f32) (n : ℕ) : sProp 𝕄 :=
  iprop(owns (c : Thread nD τ) q qq X ∗ owns (c : Thread nD τ) (slotG kv s) qs D
    ∗ owns (c : Thread nD τ) acc fullShare (aUp n (aNew X D A) A)
    ∗ owns (c : Thread nD τ) l fullShare (lUp n (lNew X D L) L))

theorem row_wp (c : Dev nD) (q : Memref sig .tc .vmem S64x256x64 .bf16) (kv : Memref sig .tc .vmem S2x2x64x256x64 .bf16)
    (acc : Memref sig .tc .vmem S64x64x256 .f32) (l : Memref sig .tc .vmem S64x1x256 .f32) (qq qs : PosShare TreeShare) (s : Fin 2)
    (X : S64x256x64.Idx → Elt F .bf16) (D : S2x64x256x64.Idx → Elt F .bf16) (A : S64x64x256.Idx → Elt F .f32) (L : S64x1x256.Idx → Elt F .f32)
    (i : Fin 64) {oq ok ov ol oa} (hq hk hv hl ha)
    (eq : oq = ![i.val, 0, 0]) (ek : ok = ![s.val, (0 : Fin 2).val, i.val, 0, 0]) (ev : ov = ![s.val, (1 : Fin 2).val, i.val, 0, 0])
    (el : ol = ![i.val, 0, 0]) (ea : oa = ![i.val, 0, 0]) {α : Type} {Q : α → sProp 𝕄} (k : Unit → PR F α) :
    (passI c q kv acc l qq qs s X D A L i.val : sProp 𝕄)
      ⊢ iprop((passI c q kv acc l qq qs s X D A L (i.val + 1) -∗ wp frame (wpE (defs₀ (F := F)) 𝒱₀ (c : Thread nD τ) none) Set.univ (k ⟨⟩) Q)
        -∗ wp frame (wpE (defs₀ (F := F)) 𝒱₀ (c : Thread nD τ) none) Set.univ (row q kv acc l oq hq ok hk ov hv ol hl oa ha >>= k) Q) := by
  subst eq ek ev el ea
  unfold passI row
  iintro ⟨Hq, Hs, Ha, Hl⟩ HK
  simp only [bind_assoc, Prog.bind_lift, Prog.bind_op, Prog.bind_ret]
  iapply (load_owns c q qq X _) $$ Hq; iintro Hq
  iapply (load_slot c kv s qs D _ (fun x => ix4 (0 : Fin 2) i (x 3) (x 4)) (row5_emb s 0 i _)) $$ Hs; iintro Hs
  iapply (load_slot c kv s qs D _ (fun x => ix4 (1 : Fin 2) i (x 3) (x 4)) (row5_emb s 1 i _)) $$ Hs; iintro Hs
  iapply (load_owns c l fullShare (lUp i.val (lNew X D L) L) _) $$ Hl; iintro Hl
  iapply (load_owns c l fullShare (lUp i.val (lNew X D L) L) _) $$ Hl; iintro Hl
  iapply (store_owns c l (lUp i.val (lNew X D L) L) _ _) $$ Hl; iintro Hl
  iapply (load_owns c acc fullShare (aUp i.val (aNew X D A) A) _) $$ Ha; iintro Ha
  iapply (load_owns c acc fullShare (aUp i.val (aNew X D A) A) _) $$ Ha; iintro Ha
  iapply (store_owns c acc (aUp i.val (aNew X D A) A) _ _) $$ Ha; iintro Ha
  iapply HK
  isplitl [Hq]; · iexact Hq
  isplitl [Hs]; · iexact Hs
  have hX : (fun x => X ((Rect.unit (s := S64x256x64) ![i.val, 0, 0] S1x256x64.size hq).emb x)) = qRow X i := by
    funext x; exact congrArg X (row3_emb i hq x)
  have hL : (fun x => upto (d := ![1, 256]) i.val (lNew X D L) L ((Rect.unit (s := S64x1x256) ![i.val, 0, 0] S1x1x256.size hl).emb x)) = lRow L i := by
    funext x
    refine (congrArg _ (row3_emb i hl x)).trans ?_
    exact if_neg (Nat.lt_irrefl _)
  have hA : (fun x => upto (d := ![64, 256]) i.val (aNew X D A) A ((Rect.unit (s := S64x64x256) ![i.val, 0, 0] S1x64x256.size ha).emb x)) = aRow A i := by
    funext x
    refine (congrArg _ (row3_emb i ha x)).trans ?_
    exact if_neg (Nat.lt_irrefl _)
  have eA : (Rect.unit (s := S64x64x256) ![i.val, 0, 0] S1x64x256.size ha).overlay (aUp i.val (aNew X D A) A)
      (k0_pay4 (k0_pay3 (fun x => X ((Rect.unit (s := S64x256x64) ![i.val, 0, 0] S1x256x64.size hq).emb x)) (fun x => D (ix4 (0 : Fin 2) i (x 3) (x 4)))
        (fun x => D (ix4 (1 : Fin 2) i (x 3) (x 4))) (fun x => aUp i.val (aNew X D A) A ((Rect.unit (s := S64x64x256) ![i.val, 0, 0] S1x64x256.size ha).emb x))))
      = aUp (i.val + 1) (aNew X D A) A := by
    refine Eq.trans ?_ (upto_overlay (d := ![64, 256]) i ha (aNew X D A) A (k0_pay4 (k0_pay3 (qRow X i) (kRow D 0 i) (kRow D 1 i) (aRow A i)))
      (fun x => congrArg _ (ix3_row x)))
    exact congrArg _ (congrArg k0_pay4 (congrArg₂ (fun a b => k0_pay3 a (kRow D 0 i) (kRow D 1 i) b) hX hA))
  have eL : (Rect.unit (s := S64x1x256) ![i.val, 0, 0] S1x1x256.size hl).overlay (lUp i.val (lNew X D L) L)
      (k0_pay2 (fun x => X ((Rect.unit (s := S64x256x64) ![i.val, 0, 0] S1x256x64.size hq).emb x)) (fun x => D (ix4 (0 : Fin 2) i (x 3) (x 4)))
        (fun x => lUp i.val (lNew X D L) L ((Rect.unit (s := S64x1x256) ![i.val, 0, 0] S1x1x256.size hl).emb x)))
      = lUp (i.val + 1) (lNew X D L) L := by
    refine Eq.trans ?_ (upto_overlay (d := ![1, 256]) i hl (lNew X D L) L (k0_pay2 (qRow X i) (kRow D 0 i) (lRow L i))
      (fun x => congrArg _ (ix3_row x)))
    exact congrArg _ (congrArg₂ (fun a b => k0_pay2 a (kRow D 0 i) b) hX hL)
  rw [← eA, ← eL]
  isplitl [Ha]; · iexact Ha
  iexact Hl

/-! ## A slot's pass -/

theorem off_rows (t : Fin k0_t1_loop.trips) (u : Fin 4) :
    k0_off1 t (BitVec.ofNat 32 u.val) = ![4 * t.val + u.val, 0, 0] ∧ k0_off2 t (BitVec.ofNat 32 u.val) = ![0, 0, 4 * t.val + u.val, 0, 0]
      ∧ k0_off3 t (BitVec.ofNat 32 u.val) = ![0, 1, 4 * t.val + u.val, 0, 0] ∧ k0_off4 t (BitVec.ofNat 32 u.val) = ![4 * t.val + u.val, 0, 0]
      ∧ k0_off5 t (BitVec.ofNat 32 u.val) = ![4 * t.val + u.val, 0, 0] := by
  revert t u; decide

theorem off_rows1 (t : Fin k0_t2_loop.trips) (u : Fin 4) :
    k0_off6 t (BitVec.ofNat 32 u.val) = ![4 * t.val + u.val, 0, 0] ∧ k0_off7 t (BitVec.ofNat 32 u.val) = ![1, 0, 4 * t.val + u.val, 0, 0]
      ∧ k0_off8 t (BitVec.ofNat 32 u.val) = ![1, 1, 4 * t.val + u.val, 0, 0] ∧ k0_off9 t (BitVec.ofNat 32 u.val) = ![4 * t.val + u.val, 0, 0]
      ∧ k0_off10 t (BitVec.ofNat 32 u.val) = ![4 * t.val + u.val, 0, 0] := by
  revert t u; decide

theorem trips1 : k0_t1_loop.trips = 16 := by decide
theorem trips2 : k0_t2_loop.trips = 16 := by decide

section Pass
variable (c : Dev nD) (q : Memref sig .tc .vmem S64x256x64 .bf16) (kv : Memref sig .tc .vmem S2x2x64x256x64 .bf16)
    (acc : Memref sig .tc .vmem S64x64x256 .f32) (l : Memref sig .tc .vmem S64x1x256 .f32) (qq qs : PosShare TreeShare)
    (X : S64x256x64.Idx → Elt F .bf16) (D : S2x64x256x64.Idx → Elt F .bf16) (A : S64x64x256.Idx → Elt F .f32) (L : S64x1x256.Idx → Elt F .f32)

theorem row0_wp (t : Fin k0_t1_loop.trips) (u : Fin 4) {α : Type} {Q : α → sProp 𝕄} (k : Unit → PR F α) :
    (passI c q kv acc l qq qs 0 X D A L (4 * t.val + u.val) : sProp 𝕄)
      ⊢ iprop((passI c q kv acc l qq qs 0 X D A L (4 * t.val + u.val + 1) -∗ wp frame (wpE (defs₀ (F := F)) 𝒱₀ (c : Thread nD τ) none) Set.univ (k ⟨⟩) Q)
        -∗ wp frame (wpE (defs₀ (F := F)) 𝒱₀ (c : Thread nD τ) none) Set.univ (row0 q kv acc l t u >>= k) Q) :=
  have ht : t.val < 16 := trips1 ▸ t.isLt
  have h := off_rows t u
  row_wp c q kv acc l qq qs 0 X D A L ⟨4 * t.val + u.val, by omega⟩ _ _ _ _ _ h.1 h.2.1 h.2.2.1 h.2.2.2.1 h.2.2.2.2 k

theorem row1_wp (t : Fin k0_t2_loop.trips) (u : Fin 4) {α : Type} {Q : α → sProp 𝕄} (k : Unit → PR F α) :
    (passI c q kv acc l qq qs 1 X D A L (4 * t.val + u.val) : sProp 𝕄)
      ⊢ iprop((passI c q kv acc l qq qs 1 X D A L (4 * t.val + u.val + 1) -∗ wp frame (wpE (defs₀ (F := F)) 𝒱₀ (c : Thread nD τ) none) Set.univ (k ⟨⟩) Q)
        -∗ wp frame (wpE (defs₀ (F := F)) 𝒱₀ (c : Thread nD τ) none) Set.univ (row1 q kv acc l t u >>= k) Q) :=
  have ht : t.val < 16 := trips2 ▸ t.isLt
  have h := off_rows1 t u
  row_wp c q kv acc l qq qs 1 X D A L ⟨4 * t.val + u.val, by omega⟩ _ _ _ _ _ h.1 h.2.1 h.2.2.1 h.2.2.2.1 h.2.2.2.2 k

/-- What a pass starts from, and what it leaves with the two accumulators advanced. -/
def passS (s : Fin 2) : sProp 𝕄 :=
  iprop(owns (c : Thread nD τ) q qq X ∗ owns (c : Thread nD τ) (slotG kv s) qs D ∗ owns (c : Thread nD τ) acc fullShare A ∗ owns (c : Thread nD τ) l fullShare L)

theorem passI_zero (s : Fin 2) : (passS c q kv acc l qq qs X D A L s : sProp 𝕄) ⊢ passI c q kv acc l qq qs s X D A L 0 := by
  unfold passI passS
  rw [show aUp 0 (aNew X D A) A = A from funext fun y => if_neg (Nat.not_lt_zero _),
    show lUp 0 (lNew X D L) L = L from funext fun y => if_neg (Nat.not_lt_zero _)]

theorem passI_full (s : Fin 2) : (passI c q kv acc l qq qs s X D A L 64 : sProp 𝕄) ⊢ passS c q kv acc l qq qs X D (aNew X D A) (lNew X D L) s := by
  unfold passI passS
  rw [show aUp 64 (aNew X D A) A = aNew X D A from funext fun y => if_pos (y 0).isLt,
    show lUp 64 (lNew X D L) L = lNew X D L from funext fun y => if_pos (y 0).isLt]

theorem proc0_wp {α : Type} {Q : α → sProp 𝕄} (k : Unit → PR F α) :
    (passS c q kv acc l qq qs X D A L 0 : sProp 𝕄)
      ⊢ iprop((passS c q kv acc l qq qs X D (aNew X D A) (lNew X D L) 0 -∗ wp frame (wpE (defs₀ (F := F)) 𝒱₀ (c : Thread nD τ) none) Set.univ (k ⟨⟩) Q)
        -∗ wp frame (wpE (defs₀ (F := F)) 𝒱₀ (c : Thread nD τ) none) Set.univ (proc0 q kv acc l >>= k) Q) := by
  iintro H HK
  ihave H := (passI_zero c q kv acc l qq qs X D A L 0) $$ H
  unfold proc0
  iapply (Scf.wp_for_bind frame (wpE (defs₀ (F := F)) 𝒱₀ (c : Thread nD τ) none) Set.univ _ _ _ k0_t1_ok PUnit.unit _
    (fun n _ => passI c q kv acc l qq qs 0 X D A L (4 * n)) (fun t _ => by
      iintro H
      iapply (row0_wp c q kv acc l qq qs X D A L t 0 _) $$ H; iintro H
      iapply (row0_wp c q kv acc l qq qs X D A L t 1 _) $$ H; iintro H
      iapply (row0_wp c q kv acc l qq qs X D A L t 2 _) $$ H; iintro H
      rw [← bind_pure (row0 q kv acc l t 3)]
      iapply (row0_wp c q kv acc l qq qs X D A L t 3 _) $$ H; iintro H
      rw [Prog.pure_eq_ret, wp_ret]
      imodintro
      iexact H)) $$ H
  iintro %u H
  iapply HK
  iapply (passI_full c q kv acc l qq qs X D A L 0)
  rw [show 64 = 4 * Scf.trips k0_t1_loop.lb k0_t1_loop.ub k0_t1_loop.st by decide]
  iexact H

theorem proc1_wp {α : Type} {Q : α → sProp 𝕄} (k : Unit → PR F α) :
    (passS c q kv acc l qq qs X D A L 1 : sProp 𝕄)
      ⊢ iprop((passS c q kv acc l qq qs X D (aNew X D A) (lNew X D L) 1 -∗ wp frame (wpE (defs₀ (F := F)) 𝒱₀ (c : Thread nD τ) none) Set.univ (k ⟨⟩) Q)
        -∗ wp frame (wpE (defs₀ (F := F)) 𝒱₀ (c : Thread nD τ) none) Set.univ (proc1 q kv acc l >>= k) Q) := by
  iintro H HK
  ihave H := (passI_zero c q kv acc l qq qs X D A L 1) $$ H
  unfold proc1
  iapply (Scf.wp_for_bind frame (wpE (defs₀ (F := F)) 𝒱₀ (c : Thread nD τ) none) Set.univ _ _ _ k0_t2_ok PUnit.unit _
    (fun n _ => passI c q kv acc l qq qs 1 X D A L (4 * n)) (fun t _ => by
      iintro H
      iapply (row1_wp c q kv acc l qq qs X D A L t 0 _) $$ H; iintro H
      iapply (row1_wp c q kv acc l qq qs X D A L t 1 _) $$ H; iintro H
      iapply (row1_wp c q kv acc l qq qs X D A L t 2 _) $$ H; iintro H
      rw [← bind_pure (row1 q kv acc l t 3)]
      iapply (row1_wp c q kv acc l qq qs X D A L t 3 _) $$ H; iintro H
      rw [Prog.pure_eq_ret, wp_ret]
      imodintro
      iexact H)) $$ H
  iintro %u H
  iapply HK
  iapply (passI_full c q kv acc l qq qs X D A L 1)
  rw [show 64 = 4 * Scf.trips k0_t2_loop.lb k0_t2_loop.ub k0_t2_loop.st by decide]
  iexact H

end Pass

/-! ## The filling and the division -/

/-- A key block and a value block as one slot's contents. -/
def pairKV (k v : S64x256x64.Idx → Elt F .bf16) : S2x64x256x64.Idx → Elt F .bf16 :=
  fun y => if (y 0).val = 0 then k (ix3 (y 1) (y 2) (y 3)) else v (ix3 (y 1) (y 2) (y 3))

theorem ix5_lead (j : S1x1x64x256x64.Idx) : j = ix5 (0 : Fin 1) (0 : Fin 1) (j 2) (j 3) (j 4) := by
  have h0 : (j 0 : Fin 1) = (0 : Fin 1) := Subsingleton.elim (α := Fin 1) _ _
  have h1 : (j 1 : Fin 1) = (0 : Fin 1) := Subsingleton.elim (α := Fin 1) _ _
  refine (eq_ix5 j).trans ?_
  exact congrArg₂ (fun z w : Fin 1 => ix5 z w (j 2) (j 3) (j 4)) h0 h1

theorem cast_lead (v : S64x256x64.Idx → Elt F .bf16) (h0 : S64x256x64.ShapeCasts S64x256x64) (h : S64x256x64.ShapeCasts S1x1x64x256x64)
    (j : S1x1x64x256x64.Idx) : shapeCast S1x1x64x256x64 (shapeCast S64x256x64 v h0) h j = v (ix3 (j 2) (j 3) (j 4)) := by
  show v (Shape.reshapeEquiv _ (Shape.reshapeEquiv _ j)) = _
  rw [Shape.reshapeEquiv_self]
  refine congrArg v ?_
  have e := reshapeEquiv_ix3_11abc (a := 64) (b := 256) (c := 64) (Eq.symm h) (j 2) (j 3) (j 4)
  refine (congrArg (Shape.reshapeEquiv h) ((ix5_lead j).trans e.symm)).trans ?_
  exact (Shape.reshapeEquiv_reshapeEquiv _ _ _).trans (Shape.reshapeEquiv_self _ _)

theorem pay241_apply (v : S64x256x64.Idx → Elt F .bf16) (j : S1x1x64x256x64.Idx) : k0_pay241 v j = v (ix3 (j 2) (j 3) (j 4)) := cast_lead v _ _ j
theorem pay242_apply (v : S64x256x64.Idx → Elt F .bf16) (j : S1x1x64x256x64.Idx) : k0_pay242 v j = v (ix3 (j 2) (j 3) (j 4)) := cast_lead v _ _ j

theorem whole_emb3 {d : Fin 3 → ℕ} (h) (x : (⟨3, d⟩ : Shape).Idx) : (Rect.unit (s := (⟨3, d⟩ : Shape)) ![0, 0, 0] (⟨3, d⟩ : Shape).size h).emb x = x := by
  funext y
  apply Fin.ext
  rw [Rect.emb_apply]
  match y with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem whole_overlay3 {β : Type} {d : Fin 3 → ℕ} (h) (X w : (⟨3, d⟩ : Shape).Idx → β) :
    (Rect.unit (s := (⟨3, d⟩ : Shape)) ![0, 0, 0] (⟨3, d⟩ : Shape).size h).overlay X w = w := by
  funext y
  conv_lhs => rw [← whole_emb3 h y]
  exact Rect.overlay_emb _ _ _ _

theorem half_emb (b : Fin 2) (h) (x : S1x1x64x256x64.Idx) :
    (Rect.unit (s := S2x2x64x256x64) ![0, b.val, 0, 0, 0] S1x1x64x256x64.size h).emb x = slotIx 0 (ix4 b (x 2) (x 3) (x 4)) := by
  funext y
  apply Fin.ext
  rw [Rect.emb_apply]
  match y with
  | ⟨0, _⟩ =>
    show 0 + 1 * (x 0).val = 0
    have h0 : (x 0).val < 1 := (x 0).isLt
    omega
  | ⟨1, _⟩ =>
    show b.val + 1 * (x 1).val = b.val
    have h0 : (x 1).val < 1 := (x 1).isLt
    omega
  | ⟨2, _⟩ => show 0 + 1 * (x 2).val = (x 2).val; omega
  | ⟨3, _⟩ => show 0 + 1 * (x 3).val = (x 3).val; omega
  | ⟨4, _⟩ => show 0 + 1 * (x 4).val = (x 4).val; omega

section Ends
variable (c : Dev nD)

theorem fill_wp (k v : Memref sig .tc .vmem S64x256x64 .bf16) (kv : Memref sig .tc .vmem S2x2x64x256x64 .bf16) (hkv : kv.IsWhole)
    (acc : Memref sig .tc .vmem S64x64x256 .f32) (l : Memref sig .tc .vmem S64x1x256 .f32) (qk qv : PosShare TreeShare)
    (K V : S64x256x64.Idx → Elt F .bf16) (D : S2x64x256x64.Idx → Elt F .bf16) (A : S64x64x256.Idx → Elt F .f32) (L : S64x1x256.Idx → Elt F .f32)
    {α : Type} {Q : α → sProp 𝕄} (kk : Unit → PR F α) :
    (iprop(owns (c : Thread nD τ) k qk K ∗ owns (c : Thread nD τ) v qv V ∗ owns (c : Thread nD τ) (slotG kv 0) fullShare D
        ∗ owns (c : Thread nD τ) acc fullShare A ∗ owns (c : Thread nD τ) l fullShare L) : sProp 𝕄)
      ⊢ iprop((iprop(owns (c : Thread nD τ) k qk K ∗ owns (c : Thread nD τ) v qv V ∗ owns (c : Thread nD τ) (slotG kv 0) fullShare (pairKV K V)
          ∗ owns (c : Thread nD τ) acc fullShare (k0_pay244 (F := F)) ∗ owns (c : Thread nD τ) l fullShare (k0_pay243 (F := F)))
            -∗ wp frame (wpE (defs₀ (F := F)) 𝒱₀ (c : Thread nD τ) none) Set.univ (kk ⟨⟩) Q)
        -∗ wp frame (wpE (defs₀ (F := F)) 𝒱₀ (c : Thread nD τ) none) Set.univ (fill k v kv hkv acc l >>= kk) Q) := by
  unfold fill
  iintro ⟨Hk, Hv, Hs, Ha, Hl⟩ HK
  simp only [bind_assoc, Prog.bind_lift, Prog.bind_op, Prog.bind_ret]
  have e0 : ∀ b : Fin 2, ∀ y : S2x64x256x64.Idx, (y 0).val = b.val → (fun x : S1x1x64x256x64.Idx => ix4 b (x 2) (x 3) (x 4)) (ix5 (0 : Fin 1) (0 : Fin 1) (y 1) (y 2) (y 3)) = y := by
    intro b y h
    refine Eq.trans ?_ (eq_ix4 y).symm
    exact congrArg (fun z : Fin 2 => ix4 z (y 1) (y 2) (y 3)) (Fin.ext h.symm)
  iapply (load_owns c k qk K _) $$ Hk; iintro Hk
  iapply (load_slot c kv 0 fullShare D _ (fun x => ix4 (0 : Fin 2) (x 2) (x 3) (x 4)) (half_emb 0 _)) $$ Hs; iintro Hs
  iapply (store_slot c kv 0 D (fun y => if (y 0).val = 0 then K (ix3 (y 1) (y 2) (y 3)) else D y) _ (fun x => ix4 (0 : Fin 2) (x 2) (x 3) (x 4)) (half_emb 0 _) _
    (by
      intro j
      refine Eq.trans ?_ (pay241_apply _ j).symm
      exact (if_pos rfl).trans (congrArg K (whole_emb3 _ _).symm))
    (by
      intro y hy
      exact if_neg fun h => hy _ (e0 0 y h))) $$ Hs; iintro Hs
  iapply (load_owns c v qv V _) $$ Hv; iintro Hv
  iapply (load_slot c kv 0 fullShare _ _ (fun x => ix4 (1 : Fin 2) (x 2) (x 3) (x 4)) (half_emb 1 _)) $$ Hs; iintro Hs
  iapply (store_slot c kv 0 _ (pairKV K V) _ (fun x => ix4 (1 : Fin 2) (x 2) (x 3) (x 4)) (half_emb 1 _) _
    (by
      intro j
      refine Eq.trans ?_ (pay242_apply _ j).symm
      exact (if_neg Nat.one_ne_zero).trans (congrArg V (whole_emb3 _ _).symm))
    (by
      intro y hy
      unfold pairKV
      by_cases h : (y 0).val = 0
      · rw [if_pos h, if_pos h]
      · exact absurd (e0 1 y (by
          have h2 : (y 0).val < 2 := (y 0).isLt
          show (y 0).val = 1
          omega)) (hy _))) $$ Hs; iintro Hs
  iapply (load_owns c l fullShare L _) $$ Hl; iintro Hl
  iapply (store_owns c l L _ _) $$ Hl; iintro Hl
  iapply (load_owns c acc fullShare A _) $$ Ha; iintro Ha
  iapply (store_owns c acc A _ _) $$ Ha; iintro Ha
  iapply HK
  isplitl [Hk]; · iexact Hk
  isplitl [Hv]; · iexact Hv
  isplitl [Hs]; · iexact Hs
  isplitl [Ha]
  · iapply (Entails.of_eq (congrArg (fun z => (owns (c : Thread nD τ) acc fullShare z : sProp 𝕄)) (whole_overlay3 inb_S64x64x256_S64x64x256_0_0_0 A (k0_pay244 (F := F)))))
    iexact Ha
  · iapply (Entails.of_eq (congrArg (fun z => (owns (c : Thread nD τ) l fullShare z : sProp 𝕄)) (whole_overlay3 inb_S64x1x256_S64x1x256_0_0_0 L (k0_pay243 (F := F)))))
    iexact Hl

theorem finish_wp (o acc : Memref sig .tc .vmem S64x64x256 .f32) (l : Memref sig .tc .vmem S64x1x256 .f32)
    (O A : S64x64x256.Idx → Elt F .f32) (L : S64x1x256.Idx → Elt F .f32) {Q : PUnit → sProp 𝕄} :
    (iprop(owns (c : Thread nD τ) o fullShare O ∗ owns (c : Thread nD τ) acc fullShare A ∗ owns (c : Thread nD τ) l fullShare L) : sProp 𝕄)
      ⊢ iprop((iprop(owns (c : Thread nD τ) o fullShare (k0_pay261 A L) ∗ owns (c : Thread nD τ) acc fullShare A ∗ owns (c : Thread nD τ) l fullShare L)
            -∗ |={Set.univ}=> Q ⟨⟩)
        -∗ wp frame (wpE (defs₀ (F := F)) 𝒱₀ (c : Thread nD τ) none) Set.univ (finish o acc l) Q) := by
  unfold finish
  iintro ⟨Ho, Ha, Hl⟩ HK
  simp only [bind_assoc, Prog.bind_lift, Prog.bind_op, Prog.bind_ret]
  iapply (load_owns c acc fullShare A _) $$ Ha; iintro Ha
  iapply (load_owns c l fullShare L _) $$ Hl; iintro Hl
  iapply (load_owns c o fullShare O _) $$ Ho; iintro Ho
  iapply (store_owns c o O _ _) $$ Ho; iintro Ho
  rw [wp_ret]
  iapply HK
  isplitl [Ho]
  · have e : k0_pay261 A L = (Rect.unit (s := S64x64x256) ![0, 0, 0] S64x64x256.size inb_S64x64x256_S64x64x256_0_0_0).overlay O
        (k0_pay261 (fun x => A ((Rect.unit (s := S64x64x256) ![0, 0, 0] S64x64x256.size inb_S64x64x256_S64x64x256_0_0_0).emb x))
          (fun x => L ((Rect.unit (s := S64x1x256) ![0, 0, 0] S64x1x256.size inb_S64x1x256_S64x1x256_0_0_0).emb x))) := by
      refine Eq.trans ?_ (whole_overlay3 _ O _).symm
      exact congrArg₂ k0_pay261 (funext fun x => congrArg A (whole_emb3 _ x).symm) (funext fun x => congrArg L (whole_emb3 _ x).symm)
    rw [e]; iexact Ho
  isplitl [Ha]; · iexact Ha
  iexact Hl

end Ends

end Cert.KernelIdeal.Ring

end
-- ==== Proof.KernelIdeal.Proto.lean ====
/- The protocol of the ring: for each semaphore cell, who contributes to it, how much, and what the
   contribution hands over.  One round per cell.

     bar c     waited once, for two units.  The right neighbour's unit hands over its own slot 1 (the
               first copy's target) and that its receive cells are open; the left neighbour's that its
               credit cells are open.
     free c f  waited before hop `f + 1`, one unit, paid by the right neighbour, which hands over its
               slot of parity `f`, the next copy's target.
     send c h  the device's own copy of hop `h` gives back the half share of the source it read.
     recv c h  the left neighbour's copy of hop `h` hands over the slot it wrote, holding the keys and
               values of the device `h + 1` places to the left. -/
module

public import proofs.«01_k».proof.Proof.KernelIdeal.Work

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- The pipeline's copy of the rounds algebra inside the ghost state, and this protocol's. -/
abbrev EP : Emb (UR sig nD τ) (MT nD τ sig Unit (Elt F) ℕ UU ℕ) := embL
abbrev ER : Emb (URounds (GSem nD τ sig) Bool) (MT nD τ sig Unit (Elt F) ℕ UU ℕ) := embR

/-! ## The ring -/

/-- The device on the right, and on the left. -/
def nxt (c : Dev nD) : Dev nD := (⟨(c.val + 1) % 16, Nat.mod_lt _ (by decide)⟩ : Fin 16)
def prv (c : Dev nD) : Dev nD := (⟨(c.val + 15) % 16, Nat.mod_lt _ (by decide)⟩ : Fin 16)

theorem nxt_prv (c : Dev nD) : nxt (prv c) = c := by revert c; decide
theorem prv_nxt (c : Dev nD) : prv (nxt c) = c := by revert c; decide
theorem rightP_eq (c : Dev nD) : rightP c = nxt c := by revert c; decide
theorem leftP_eq (c : Dev nD) : leftP c = prv c := by revert c; decide

/-- Going right, as a permutation of the devices; and going left. -/
def ringR : Dev nD ≃ Dev nD := ⟨nxt, prv, prv_nxt, nxt_prv⟩
def ringL : Dev nD ≃ Dev nD := ⟨prv, nxt, nxt_prv, prv_nxt⟩

/-! ## Cells -/

/-- Hop `h`'s send semaphore, hop `h`'s receive semaphore, credit semaphore `f`, the barrier. -/
abbrev sD (h : ℕ) : DmaSem sig := ⟨(4 + h) % 34, Nat.mod_lt _ (by decide)⟩
abbrev rD (h : ℕ) : DmaSem sig := ⟨(19 + h) % 34, Nat.mod_lt _ (by decide)⟩
abbrev fS (f : ℕ) : Sem sig := ⟨f % 15, Nat.mod_lt _ (by decide)⟩
abbrev bS : Sem sig := ⟨14, by decide⟩

abbrev sendC (c : Dev nD) (h : ℕ) : GSem nD τ sig := ((c : Thread nD τ), .dma (sD h))
abbrev recvC (c : Dev nD) (h : ℕ) : GSem nD τ sig := ((c : Thread nD τ), .dma (rD h))
abbrev freeC (c : Dev nD) (f : ℕ) : GSem nD τ sig := ((c : Thread nD τ), .reg (fS f))
abbrev barC (c : Dev nD) : GSem nD τ sig := ((c : Thread nD τ), .reg bS)

theorem dsem_send (h : ℕ) (hh : h < 15) : dsem cc0_scratch3 h hh = sD h := by
  have : ∀ i : Fin 15, dsem cc0_scratch3 i.val i.isLt = sD i.val := by decide
  exact this ⟨h, hh⟩
theorem dsem_recv (h : ℕ) (hh : h < 15) : dsem cc0_scratch4 h hh = rD h := by
  have : ∀ i : Fin 15, dsem cc0_scratch4 i.val i.isLt = rD i.val := by decide
  exact this ⟨h, hh⟩
theorem csem_free (f : ℕ) (hf : f < 14) : csem cc0_scratch5 f hf = fS f := by
  have : ∀ i : Fin 14, csem cc0_scratch5 i.val i.isLt = fS i.val := by decide
  exact this ⟨f, hf⟩
theorem bar_sem : ((SemArray.scalar (sig.barrier 0 rfl) : Sems sig S_).sem) = bS := by decide

/-! ## Contents -/

abbrev kvM : Memref sig .tc .vmem S2x2x64x256x64 .bf16 := Memref.whole cc0_scratch0
abbrev accM : Memref sig .tc .vmem S64x64x256 .f32 := Memref.whole cc0_scratch1
abbrev lM : Memref sig .tc .vmem S64x1x256 .f32 := Memref.whole cc0_scratch2

/-- The slot of hop `h`'s source, and of hop `h + 1`'s target. -/
abbrev par (h : ℕ) : Fin 2 := ⟨h % 2, Nat.mod_lt _ (by decide)⟩
theorem par_two (h : ℕ) : par (h + 2) = par h := Fin.ext (by show (h + 2) % 2 = h % 2; omega)

abbrev slotM (s : Fin 2) : Memref sig .tc .vmem S2x64x256x64 .bf16 := slotG kvM s

/-- One copy's units. -/
def N : ℕ := (slotM 0).view.dmaCredit
theorem N_slot (s : Fin 2) : (slotM s).view.dmaCredit = N := rfl
theorem N_pos : 0 < N := View.dmaCredit_pos (slotM 0).view (by rw [show S2x64x256x64.numel = 2097152 from rfl]; omega)

variable (KV : Dev nD → S2x64x256x64.Idx → Elt F .bf16)

/-- What device `c` works on at hop `h`: the keys and values of the device `h` places to the left. -/
def dat (c : Dev nD) (h : ℕ) : S2x64x256x64.Idx → Elt F .bf16 := KV (prv^[h] c)
theorem dat_succ (c : Dev nD) (h : ℕ) : dat KV c (h + 1) = dat KV (prv c) h := rfl

/-! ## The schedule -/

/-- A slot of a device, at contents not chosen. -/
def slotAny (c : Dev nD) (s : Fin 2) : sProp 𝕄 := iprop(∃ D, owns (c : Thread nD τ) (slotM s) fullShare D)

def barR (n : Dev nD) : sProp 𝕄 := iprop(slotAny n 1 ∗ bigSep (Finset.range 15) fun h => reached ER (recvC n h) 0)
def barL (p : Dev nD) : sProp 𝕄 := bigSep (Finset.range 14) fun f => reached ER (freeC p f) 0
def freePay (n : Dev nD) (f : ℕ) : sProp 𝕄 := slotAny n (par f)
def sendPay (c : Dev nD) (h : ℕ) : sProp 𝕄 := owns (c : Thread nD τ) (slotM (par h)) fullShare.left (dat KV c h)
def recvPay (c : Dev nD) (h : ℕ) : sProp 𝕄 := owns (c : Thread nD τ) (slotM (par (h + 1))) fullShare (dat KV c (h + 1))

/-- The duties of a semaphore's one round. -/
def dutiesOf : SemLoc sig → Finset Bool
  | .reg s => if s.val = 14 then {true, false} else {false}
  | .dma s => if 4 ≤ s.val then {false} else ∅

theorem dutiesOf_reg (s : Sem sig) : dutiesOf (.reg s) = if s.val = 14 then {true, false} else {false} := rfl
theorem dutiesOf_dma (s : DmaSem sig) : dutiesOf (.dma s) = if 4 ≤ s.val then {false} else ∅ := rfl

/-- The units of one duty. -/
def unitsOf : SemLoc sig → ℕ
  | .reg _ => 1
  | .dma _ => N

/-- What a contribution to device `c`'s semaphore hands over. -/
def payOf (c : Dev nD) (d : Bool) : SemLoc sig → sProp 𝕄
  | .reg s => if s.val = 14 then (if d = true then barR (nxt c) else barL (prv c)) else freePay (nxt c) s.val
  | .dma s => if 19 ≤ s.val then recvPay KV c (s.val - 19) else sendPay KV c (s.val - 4)

theorem payOf_reg (c : Dev nD) (d : Bool) (s : Sem sig) : payOf KV c d (.reg s)
    = if s.val = 14 then (if d = true then barR (nxt c) else barL (prv c)) else freePay (nxt c) s.val := rfl
theorem payOf_dma (c : Dev nD) (d : Bool) (s : DmaSem sig) : payOf KV c d (.dma s)
    = if 19 ≤ s.val then recvPay KV c (s.val - 19) else sendPay KV c (s.val - 4) := rfl

def Rd : Rounds.Schedule (GSem nD τ sig) Bool 𝕄 where
  duties g r := if r = 0 ∧ g.1.2 = .tc then dutiesOf g.2 else ∅
  unitless _ := False
  amount g _ _ := unitsOf g.2
  payload g _ d := payOf KV g.1.1 d g.2
  amount_pos g _ _ _ := by
    cases g.2 with
    | reg _ => exact Nat.one_pos
    | dma _ => exact N_pos

instance payOf_storable (c : Dev nD) (d : Bool) (s : SemLoc sig) : BI.Storable (upEmb : UEmb _ 𝕄) (payOf KV c d s) := by
  cases s with
  | reg s =>
    show BI.Storable upEmb (if s.val = 14 then (if d = true then barR (nxt c) else barL (prv c)) else freePay (nxt c) s.val)
    unfold barR barL freePay slotAny
    (repeat' split) <;> infer_instance
  | dma s =>
    show BI.Storable upEmb (if 19 ≤ s.val then recvPay KV c (s.val - 19) else sendPay KV c (s.val - 4))
    unfold recvPay sendPay
    (repeat' split) <;> infer_instance

instance Rd_payload_storable (g : GSem nD τ sig) (r : ℕ) (d : Bool) : BI.Storable (upEmb : UEmb _ 𝕄) ((Rd KV).payload g r d) :=
  payOf_storable KV g.1.1 d g.2

theorem Rd_duties (g : GSem nD τ sig) (r : ℕ) : (Rd KV).duties g r = if r = 0 ∧ g.1.2 = .tc then dutiesOf g.2 else ∅ := rfl

section Sched
variable (c : Dev nD)

theorem duties_eq (s : SemLoc sig) : (Rd KV).duties ((c : Thread nD τ), s) 0 = dutiesOf s := by
  rw [Rd_duties, if_pos (And.intro rfl rfl)]
theorem duties_later (g : GSem nD τ sig) : ∀ r, 1 ≤ r → (Rd KV).duties g r = ∅ := fun r hr => by
  rw [Rd_duties]; exact if_neg fun h => by omega

theorem duties_bar : (Rd KV).duties (barC c) 0 = {true, false} := by
  rw [duties_eq, dutiesOf_reg, if_pos rfl]
theorem duties_free {f : ℕ} (hf : f < 14) : (Rd KV).duties (freeC c f) 0 = {false} := by
  rw [duties_eq, dutiesOf_reg, if_neg (by show f % 15 ≠ 14; omega)]
theorem duties_send {h : ℕ} (hh : h < 15) : (Rd KV).duties (sendC c h) 0 = {false} := by
  rw [duties_eq, dutiesOf_dma, if_pos (by show 4 ≤ (4 + h) % 34; omega)]
theorem duties_recv {h : ℕ} (hh : h < 15) : (Rd KV).duties (recvC c h) 0 = {false} := by
  rw [duties_eq, dutiesOf_dma, if_pos (by show 4 ≤ (19 + h) % 34; omega)]

theorem expect_bar : (Rd KV).expect (barC c) 0 = 2 := by
  unfold Schedule.expect Schedule.amountOf; rw [duties_bar]; rfl
theorem expect_free {f : ℕ} (hf : f < 14) : (Rd KV).expect (freeC c f) 0 = 1 := by
  unfold Schedule.expect Schedule.amountOf; rw [duties_free KV c hf, Finset.sum_singleton]; rfl
theorem expect_send {h : ℕ} (hh : h < 15) : (Rd KV).expect (sendC c h) 0 = N := by
  unfold Schedule.expect Schedule.amountOf; rw [duties_send KV c hh, Finset.sum_singleton]; rfl
theorem expect_recv {h : ℕ} (hh : h < 15) : (Rd KV).expect (recvC c h) 0 = N := by
  unfold Schedule.expect Schedule.amountOf; rw [duties_recv KV c hh, Finset.sum_singleton]; rfl

theorem payload_eq (d : Bool) (s : SemLoc sig) : (Rd KV).payload ((c : Thread nD τ), s) 0 d = payOf KV c d s := rfl
theorem pay_barR : (Rd KV).payload (barC c) 0 true = barR (nxt c) := by
  rw [payload_eq, payOf_reg, if_pos rfl, if_pos rfl]
theorem pay_barL : (Rd KV).payload (barC c) 0 false = barL (prv c) := by
  rw [payload_eq, payOf_reg, if_pos rfl, if_neg Bool.false_ne_true]
theorem pay_free {f : ℕ} (hf : f < 14) : (Rd KV).payload (freeC c f) 0 false = freePay (nxt c) f := by
  rw [payload_eq, payOf_reg, if_neg (by show f % 15 ≠ 14; omega), show (fS f).val = f from Nat.mod_eq_of_lt (by omega)]
theorem pay_send {h : ℕ} (hh : h < 15) : (Rd KV).payload (sendC c h) 0 false = sendPay KV c h := by
  have e : (sD h).val = 4 + h := Nat.mod_eq_of_lt (by omega)
  rw [payload_eq, payOf_dma, if_neg (by rw [e]; omega), e, Nat.add_sub_cancel_left]
theorem pay_recv {h : ℕ} (hh : h < 15) : (Rd KV).payload (recvC c h) 0 false = recvPay KV c h := by
  have e : (rD h).val = 19 + h := Nat.mod_eq_of_lt (by omega)
  rw [payload_eq, payOf_dma, if_pos (by rw [e]; omega), e, Nat.add_sub_cancel_left]

theorem rest_bar : bigSep ((Rd KV).duties (barC c) 0 \ ∅) (fun d => (Rd KV).payload (barC c) 0 d) = iprop(barR (nxt c) ∗ barL (prv c)) := by
  rw [Finset.sdiff_empty, duties_bar, bigSep_insert (by decide), bigSep_singleton, pay_barR, pay_barL]; rfl
theorem rest_free {f : ℕ} (hf : f < 14) : bigSep ((Rd KV).duties (freeC c f) 0 \ ∅) (fun d => (Rd KV).payload (freeC c f) 0 d) = freePay (nxt c) f := by
  rw [Finset.sdiff_empty, duties_free KV c hf, bigSep_singleton, pay_free KV c hf]
theorem rest_send {h : ℕ} (hh : h < 15) : bigSep ((Rd KV).duties (sendC c h) 0 \ ∅) (fun d => (Rd KV).payload (sendC c h) 0 d) = sendPay KV c h := by
  rw [Finset.sdiff_empty, duties_send KV c hh, bigSep_singleton, pay_send KV c hh]
theorem rest_recv {h : ℕ} (hh : h < 15) : bigSep ((Rd KV).duties (recvC c h) 0 \ ∅) (fun d => (Rd KV).payload (recvC c h) 0 d) = recvPay KV c h := by
  rw [Finset.sdiff_empty, duties_recv KV c hh, bigSep_singleton, pay_recv KV c hh]

theorem close (κ : ℕ) (g : GSem nD τ sig) : iprop(cellInv ER (Rd KV) κ g ∗ atPos ER g (0 + 1) ∅ 0) ⊢ (|={Set.univ}=> semVal g 0 : sProp 𝕄) :=
  Rounds.cell_close ER (Rd KV) (Set.mem_univ κ) id (duties_later KV g)

end Sched

/-! ## What each device owes; the levels -/

/-- What device `c` still owes before hop `f + 1`, with `k` hops to go: each hop's credit to the left
    neighbour and each hop's copy to the right one. -/
def oweFrom (c : Dev nD) : ℕ → ℕ → CellTallies nD τ sig Unit
  | _, 0 => 0
  | f, k + 1 => (oweFrom c (f + 1) k + tallyAt (recvC (nxt c) (f + 1)) () N) + tallyAt (freeC (prv c) f) () 1

/-- … from hop 0 on, … -/
def oweHops (c : Dev nD) : CellTallies nD τ sig Unit := oweFrom c 0 14 + tallyAt (recvC (nxt c) 0) () N
/-- … and at the start, with the two barrier units. -/
def O₀ (c : Dev nD) : CellTallies nD τ sig Unit := (oweHops c + tallyAt (barC (nxt c)) () 1) + tallyAt (barC (prv c)) () 1

def L (g : GSem nD τ sig) : Finset Unit := if g.1.2 = .tc then {()} else ∅
/-- The barrier first, then the cells hop by hop; the rest at the bottom. -/
def lvS : SemLoc sig → ℕ
  | .reg s => if s.val = 14 then 1 else 2 * s.val + 3
  | .dma s => if 19 ≤ s.val then 2 * (s.val - 19) + 2 else 0
theorem lvS_reg (s : Sem sig) : lvS (.reg s) = if s.val = 14 then 1 else 2 * s.val + 3 := rfl
theorem lvS_dma (s : DmaSem sig) : lvS (.dma s) = if 19 ≤ s.val then 2 * (s.val - 19) + 2 else 0 := rfl
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_free {f : ℕ} (hf : f < 14) : lvS (.reg (fS f)) = 2 * f + 3 := by
  have e : (fS f).val = f := Nat.mod_eq_of_lt (by omega)
  rw [lvS_reg, e, if_neg (by omega)]
theorem lv_recv {h : ℕ} (hh : h < 15) : lvS (.dma (rD h)) = 2 * h + 2 := by
  have e : (rD h).val = 19 + h := Nat.mod_eq_of_lt (by omega)
  rw [lvS_dma, e, if_pos (by omega), Nat.add_sub_cancel_left]
theorem lv_send {h : ℕ} (hh : h < 15) : lvS (.dma (sD h)) = 0 := by
  have e : (sD h).val = 4 + h := Nat.mod_eq_of_lt (by omega)
  rw [lvS_dma, e, if_neg (by omega)]

theorem tally_pos {g g' : GSem nD τ sig} {u : Unit} {n : ℕ} (h : 0 < tallyAt g' () n g u) : g = g' := by
  rw [tallyAt_apply] at h
  by_contra hne
  rw [if_neg (fun hh => hne hh.1)] at h
  exact absurd h (Nat.lt_irrefl 0)

/-- Whatever is owed before hop `f + 1` sits on a TensorCore's cell at a level above `2 f + 2`. -/
theorem oweFrom_pos (c : Dev nD) (g : GSem nD τ sig) (u : Unit) :
    ∀ k f, f + k = 14 → 0 < oweFrom c f k g u → g.1.2 = .tc ∧ 2 * f + 2 < lvS g.2
  | 0, f, _, h => absurd h (Nat.lt_irrefl 0)
  | k + 1, f, hk, h => by
    unfold oweFrom at h
    rw [Pi.add_apply, Finsupp.add_apply, Pi.add_apply, Finsupp.add_apply] at h
    rcases Nat.eq_zero_or_pos (tallyAt (freeC (prv c) f) () 1 g u) with h1 | h1
    · rcases Nat.eq_zero_or_pos (tallyAt (recvC (nxt c) (f + 1)) () N g u) with h2 | h2
      · have := oweFrom_pos c g u k (f + 1) (by omega) (by omega)
        exact ⟨this.1, by omega⟩
      · have := tally_pos h2
        subst this
        exact ⟨rfl, by rw [lv_recv (by omega)]; omega⟩
    · have := tally_pos h1
      subst this
      exact ⟨rfl, by rw [lv_free (by omega)]; omega⟩

theorem oweHops_pos (c : Dev nD) (g : GSem nD τ sig) (u : Unit) (h : 0 < oweHops c g u) : g.1.2 = .tc ∧ 1 < lvS g.2 := by
  unfold oweHops at h
  rw [Pi.add_apply, Finsupp.add_apply] at h
  rcases Nat.eq_zero_or_pos (tallyAt (recvC (nxt c) 0) () N g u) with h2 | h2
  · have := oweFrom_pos c g u 14 0 rfl (by omega)
    exact ⟨this.1, by omega⟩
  · have := tally_pos h2
    subst this
    exact ⟨rfl, by rw [lv_recv (by omega)]; omega⟩

theorem O₀_pos' (c : Dev nD) (g : GSem nD τ sig) (u : Unit) (h : 0 < O₀ c g u) : g.1.2 = .tc ∧ 0 < lvS g.2 := by
  unfold O₀ at h
  rw [Pi.add_apply, Finsupp.add_apply, Pi.add_apply, Finsupp.add_apply] at h
  rcases Nat.eq_zero_or_pos (tallyAt (barC (prv c)) () 1 g u) with h1 | h1
  · rcases Nat.eq_zero_or_pos (tallyAt (barC (nxt c)) () 1 g u) with h2 | h2
    · have := oweHops_pos c g u (by omega)
      exact ⟨this.1, by omega⟩
    · have := tally_pos h2
      subst this
      exact ⟨rfl, (by decide : 0 < lvS (.reg bS))⟩
  · have := tally_pos h1
    subst this
    exact ⟨rfl, (by decide : 0 < lvS (.reg bS))⟩

/-- The level facts. -/
def levs : sProp 𝕄 := levAts L lv
instance levs_persistent : BI.Persistent (levs : sProp 𝕄) := by unfold levs; infer_instance

/-- A wait on a cell whose level lies below everything owed. -/
theorem mayWait_of (c : Dev nD) (sm : SemLoc sig) (O : CellTallies nD τ sig Unit) (n : ℕ) (hn : lvS sm ≤ n)
    (hO : ∀ g u, 0 < O g u → g.1.2 = .tc ∧ n < lvS g.2) : (levs : sProp 𝕄) ⊢ MayWait (c : Thread nD τ) sm () O :=
  show (levAts L lv : sProp 𝕄) ⊢ _ from MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.Ring

end
-- ==== Proof.KernelIdeal.Body.lean ====
/- The body's run, on a symbolic device: the barrier, then hop by hop, each hop's three cells closed as soon
   as its waits are over. -/
module

public import proofs.«01_k».proof.Proof.KernelIdeal.Proto

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## The cells of the mesh -/

/-- The kernel's own semaphores: fifteen sends, fifteen receives, fourteen credits. -/
abbrev KS : Type := Fin 15 ⊕ (Fin 15 ⊕ Fin 14)
def osem : KS → SemLoc sig
  | .inl h => .dma (sD h.val)
  | .inr (.inl h) => .dma (rD h.val)
  | .inr (.inr f) => .reg (fS f.val)

theorem osem_inj : Function.Injective osem := by decide
theorem osem_ne_bar : ∀ k : KS, osem k ≠ .reg bS := by decide

def barEmb : Dev nD ↪ GSem nD τ sig := ⟨fun c => barC c, fun _ _ h => congrArg (fun g : GSem nD τ sig => g.1.1) h⟩
def scEmb : Dev nD × KS ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem own_mem (c : Dev nD) (k : KS) : ((c : Thread nD τ), osem k) ∈ (barCells ∪ scCells : Finset (GSem nD τ sig)) :=
  Finset.mem_union_right _ (Finset.mem_map_of_mem scEmb (Finset.mem_univ (c, k)))
theorem send_mem (c : Dev nD) {h : ℕ} (hh : h < 15) : sendC c h ∈ (barCells ∪ scCells : Finset (GSem nD τ sig)) := own_mem c (.inl ⟨h, hh⟩)
theorem recv_mem (c : Dev nD) {h : ℕ} (hh : h < 15) : recvC c h ∈ (barCells ∪ scCells : Finset (GSem nD τ sig)) := own_mem c (.inr (.inl ⟨h, hh⟩))
theorem free_mem (c : Dev nD) {f : ℕ} (hf : f < 14) : freeC c f ∈ (barCells ∪ scCells : Finset (GSem nD τ sig)) := own_mem c (.inr (.inr ⟨f, hf⟩))

variable (KV : Dev nD → S2x64x256x64.Idx → Elt F .bf16)

/-- What every device may consult: all the invariants under one map of names; round 0 of every barrier cell reached. -/
def records (κ : GSem nD τ sig → ℕ) : sProp 𝕄 :=
  iprop((bigSep (barCells ∪ scCells) fun g => cellInv ER (Rd KV) (κ g) g) ∗ bigSep barCells fun g => reached ER g 0)

instance records_persistent (κ : GSem nD τ sig → ℕ) : BI.Persistent (records KV κ) := by unfold records; infer_instance

theorem inv_at (κ : GSem nD τ sig → ℕ) {g : GSem nD τ sig} (hg : g ∈ (barCells ∪ scCells : Finset (GSem nD τ sig))) :
    (records KV κ : sProp 𝕄) ⊢ cellInv ER (Rd KV) (κ g) g := by
  unfold records
  iintro ⟨#H, -⟩
  iapply (show (bigSep (barCells ∪ scCells) fun g => (cellInv ER (Rd KV) (κ g) g : sProp 𝕄)) ⊢ cellInv ER (Rd KV) (κ g) g from bigSep_elim hg)
  iexact H

theorem reached_at (κ : GSem nD τ sig → ℕ) (c : Dev nD) : (records KV κ : sProp 𝕄) ⊢ reached ER (barC c) 0 := by
  unfold records
  iintro ⟨-, #H⟩
  iapply (show (bigSep barCells fun g => (reached ER g 0 : sProp 𝕄)) ⊢ reached ER (barC c) 0 from bigSep_elim (Finset.mem_map_of_mem barEmb (Finset.mem_univ c)))
  iexact H

/-- … with the levels, and with the neighbours' cells known to be open. -/
def ctx (κ : GSem nD τ sig → ℕ) (c : Dev nD) : sProp 𝕄 :=
  iprop(records KV κ ∗ (bigSep (Finset.range 15) fun h => reached ER (recvC (nxt c) h) 0) ∗ barL (prv c))

instance barL_persistent (c : Dev nD) : BI.Persistent (barL c : sProp 𝕄) := by unfold barL; infer_instance
instance ctx_persistent (κ : GSem nD τ sig → ℕ) (c : Dev nD) : BI.Persistent (ctx KV κ c) := by unfold ctx; infer_instance

/-- What hop `h`'s copy and waits use up. -/
def sendRes (c : Dev nD) (h : ℕ) : sProp 𝕄 :=
  iprop(atPos ER (sendC c h) 0 ∅ 0 ∗ reached ER (sendC c h) 0 ∗ atPos ER (recvC c h) 0 ∅ 0 ∗ dutyTok ER (sendC c h) 0 false
    ∗ dutyTok ER (recvC (nxt c) h) 0 false ∗ cred (tallyAt (recvC c h) () N))

/-- What the credit exchange `f` uses up. -/
def freeRes (c : Dev nD) (f : ℕ) : sProp 𝕄 :=
  iprop(atPos ER (freeC c f) 0 ∅ 0 ∗ dutyTok ER (freeC (prv c) f) 0 false ∗ cred (tallyAt (freeC c f) () 1))

section Steps
variable (c : Dev nD) (κ : GSem nD τ sig → ℕ)

theorem ctx_records : (ctx KV κ c : sProp 𝕄) ⊢ records KV κ := by unfold ctx; iintro ⟨#H, -⟩; iexact H
theorem recv_open {h : ℕ} (hh : h < 15) : (ctx KV κ c : sProp 𝕄) ⊢ reached ER (recvC (nxt c) h) 0 := by
  unfold ctx
  iintro ⟨-, #H, -⟩
  iapply (show (bigSep (Finset.range 15) fun h => (reached ER (recvC (nxt c) h) 0 : sProp 𝕄)) ⊢ reached ER (recvC (nxt c) h) 0 from bigSep_elim (Finset.mem_range.mpr hh))
  iexact H
theorem free_open {f : ℕ} (hf : f < 14) : (ctx KV κ c : sProp 𝕄) ⊢ reached ER (freeC (prv c) f) 0 := by
  unfold ctx barL
  iintro ⟨-, -, #H⟩
  iapply (show (bigSep (Finset.range 14) fun f => (reached ER (freeC (prv c) f) 0 : sProp 𝕄)) ⊢ reached ER (freeC (prv c) f) 0 from bigSep_elim (Finset.mem_range.mpr hf))
  iexact H

/-- The credit exchange: the own slot of parity `f` goes to the left neighbour, the right neighbour's comes. -/
theorem credit_wp {f : ℕ} (hf : f < 14) (O : CellTallies nD τ sig Unit) (hO : ∀ g u, 0 < O g u → g.1.2 = .tc ∧ 2 * f + 3 < lvS g.2)
    (W : Waits sig Unit) {α : Type} {Q : α → sProp 𝕄} (k : Unit → PR F α) :
    (iprop(ctx KV κ c ∗ levs ∗ slotAny c (par f) ∗ freeRes c f ∗ owes (c : Thread nD τ) (O + tallyAt (freeC (prv c) f) () 1) W) : sProp 𝕄)
      ⊢ iprop((iprop(slotAny (nxt c) (par f) ∗ semVal (freeC c f) 0 ∗ ∃ W, owes (c : Thread nD τ) O W)
            -∗ wp frame (wpE (defs₀ (F := F)) 𝒱₀ (c : Thread nD τ) none) Set.univ (k ⟨⟩) Q)
        -∗ wp frame (wpE (defs₀ (F := F)) 𝒱₀ (c : Thread nD τ) none) Set.univ (credit (prv c) (fS f) >>= k) Q) := by
  unfold credit semSignalWord semWaitWord freeRes
  iintro ⟨#HC, #HL, Hs, ⟨Hat, Ht, Hc⟩, HO⟩ HK
  simp only [bind_assoc, Prog.bind_op, Prog.bind_ret]
  ihave #HR := (ctx_records KV c κ) $$ HC
  ihave #HI := (inv_at KV κ (free_mem c hf)) $$ HR
  iapply (Rounds.wp_signal 𝒱₀ ER (Rd KV) (c : Thread nD τ) none (dst := (prv c : Thread nD τ)) (sem := fS f) (r := 0) (d := false) (κ := κ (freeC (prv c) f))
      (by rw [duties_free KV (prv c) hf]; exact Finset.mem_singleton_self _) rfl () O rfl) $$ [HO Ht Hs]
  · isplitr; · iapply (inv_at KV κ (free_mem (prv c) hf)); iexact HR
    isplitl [HO]; · iexact HO
    isplitl [Ht]; · iexact Ht
    isplitl [Hs]
    · rw [pay_free KV (prv c) hf, nxt_prv]; unfold freePay; iexact Hs
    · iapply (free_open KV c κ hf); iexact HC
  iintro HO
  iapply (Rounds.wp_wait_rest_token 𝒱₀ ER (Rd KV) (c : Thread nD τ) none (κ := κ (freeC c f))
      (wpE_semWait_eq 𝒱₀ (c : Thread nD τ) none Set.univ) (Set.mem_univ _) () (O := O) (W := W) (R := 0) (m := 0) (T := ∅)
      ((Nat.zero_add 1).trans (expect_free KV c hf).symm)) $$ [Hc HO Hat]
  · isplitr; · iexact HI
    isplitl [Hc]; · iexact Hc
    isplitl [HO]; · iexact HO
    isplitr
    · iapply (mayWait_of c (.reg (fS f)) O (2 * f + 3) (le_of_eq (lv_free hf)) hO); iexact HL
    iexact Hat
  iintro ⟨HO, Hat, -, Hpay⟩
  ihave Hp := (Entails.of_eq (rest_free KV c hf)) $$ Hpay
  imod (close KV (κ (freeC c f)) (freeC c f)) $$ [Hat] with Hv
  · isplitr; · iexact HI
    iexact Hat
  iapply HK
  isplitl [Hp]; · unfold freePay; iexact Hp
  isplitl [Hv]; · iexact Hv
  iexists _; iexact HO

/-- One hop at slots `a` (the source) and `b` (the target), `p` the work on the source meanwhile. -/
def hopG (a b : Fin 2) (n : Dev nD) (s r : DmaSem sig) (ha : (slotM a).view.WordExact) (hb : (slotM b).view.WordExact)
    (ht : DmaTarget.Typed (nD := nD) (τ := τ) (p := .tc) .vmem (.dma r : SemLoc sig) (.remote (Dev.tc n) (slotM b) (.dma s))) (p : PR F Unit) : PR F Unit := do
  Prog.lift (.enqueueDma (slotM a) (.remote (Dev.tc n) (slotM b) (.dma s)) (.dma r) ha hb ht)
  p
  Prog.lift (.waitDma2 s (slotM b) (slotM a) hb ha)
  Prog.lift (.waitDma2 r (slotM a) (slotM b) ha hb)

theorem dat_nxt (h : ℕ) : dat KV (nxt c) (h + 1) = dat KV c h := by
  rw [dat_succ, prv_nxt]

/-- What a copy leaves in the right neighbour's slot. -/
theorem landed (h : ℕ) (s : Fin 2) (fs : (slotM s).view.ty.Contents (Elt F)) (hfs : (slotM s).view.read (Elt F) fs = dat KV c h)
    (fd : (slotM (par (h + 1))).view.ty.Contents (Elt F)) :
    ((slotM (par (h + 1))).view.loc (nxt c : Thread nD τ) ↦[(slotM (par (h + 1))).view.set]{fullShare}
        ((slotM (par (h + 1))).view.write (Elt F) fd ((slotM s).view.read (Elt F) fs) Finset.univ) : sProp 𝕄)
      ⊢ recvPay KV (nxt c) h := by
  unfold recvPay owns
  iintro H
  iexists ((slotM (par (h + 1))).view.write (Elt F) fd ((slotM s).view.read (Elt F) fs) Finset.univ)
  isplitr
  · ipureintro
    exact (View.read_write_univ _ _).trans (hfs.trans (dat_nxt KV c h).symm)
  iexact H

theorem owns_elim (m : Memref sig .tc .vmem S2x64x256x64 .bf16) (q : PosShare TreeShare) (X : S2x64x256x64.Idx → Elt F .bf16) :
    (owns (c : Thread nD τ) m q X : sProp 𝕄) ⊢ iprop(∃ f, ⌜m.view.read (Elt F) f = X⌝ ∗ (m.view.loc (c : Thread nD τ) ↦[m.view.set]{q} f)) := .rfl

/-- One hop.  While the copy reads one half share of the source slot, the work reads the other. -/
theorem hop_wp {h : ℕ} (hh : h < 15) (a b : Fin 2) (hab : par h = a) (hbb : par (h + 1) = b)
    (ha : (slotM a).view.WordExact) (hb : (slotM b).view.WordExact)
    (ht : DmaTarget.Typed (nD := nD) (τ := τ) (p := .tc) .vmem (.dma (rD h) : SemLoc sig) (.remote (Dev.tc (nxt c)) (slotM b) (.dma (sD h)))) (p : PR F Unit)
    (q : Memref sig .tc .vmem S64x256x64 .bf16) (X : S64x256x64.Idx → Elt F .bf16) (A : S64x64x256.Idx → Elt F .f32) (Lc : S64x1x256.Idx → Elt F .f32)
    (O : CellTallies nD τ sig Unit) (hO : ∀ g u, 0 < O g u → g.1.2 = .tc ∧ 2 * h + 2 < lvS g.2)
    (W : Waits sig Unit) {α : Type} {Q : α → sProp 𝕄}
    (hp : ∀ k : Unit → PR F α, (passS c q kvM accM lM fullShare fullShare.right X (dat KV c h) A Lc a : sProp 𝕄)
      ⊢ iprop((passS c q kvM accM lM fullShare fullShare.right X (dat KV c h) (aNew X (dat KV c h) A) (lNew X (dat KV c h) Lc) a
            -∗ wp frame (wpE (defs₀ (F := F)) 𝒱₀ (c : Thread nD τ) none) Set.univ (k ⟨⟩) Q)
        -∗ wp frame (wpE (defs₀ (F := F)) 𝒱₀ (c : Thread nD τ) none) Set.univ (p >>= k) Q))
    (k : Unit → PR F α) :
    (iprop(ctx KV κ c ∗ levs ∗ passS c q kvM accM lM fullShare fullShare X (dat KV c h) A Lc a ∗ slotAny (nxt c) b ∗ sendRes c h
        ∗ owes (c : Thread nD τ) (O + tallyAt (recvC (nxt c) h) () N) W) : sProp 𝕄)
      ⊢ iprop((iprop(passS c q kvM accM lM fullShare fullShare X (dat KV c h) (aNew X (dat KV c h) A) (lNew X (dat KV c h) Lc) a
              ∗ owns (c : Thread nD τ) (slotM b) fullShare (dat KV c (h + 1))
              ∗ (semVal (sendC c h) 0 ∗ semVal (recvC c h) 0) ∗ ∃ W, owes (c : Thread nD τ) O W)
            -∗ wp frame (wpE (defs₀ (F := F)) 𝒱₀ (c : Thread nD τ) none) Set.univ (k ⟨⟩) Q)
        -∗ wp frame (wpE (defs₀ (F := F)) 𝒱₀ (c : Thread nD τ) none) Set.univ (hopG a b (nxt c) (sD h) (rD h) ha hb ht p >>= k) Q) := by
  subst hab hbb
  unfold hopG sendRes slotAny
  iintro ⟨#HC, #HL, HP, ⟨%Dn, Hn⟩, ⟨HatS, #HrS, HatV, HtS, HtN, HcV⟩, HO⟩ HK
  simp only [bind_assoc, Prog.bind_lift, Prog.bind_op, Prog.bind_ret]
  ihave #HR := (ctx_records KV c κ) $$ HC
  ihave #HIs := (inv_at KV κ (send_mem c hh)) $$ HR
  ihave #HIv := (inv_at KV κ (recv_mem c hh)) $$ HR
  unfold passS
  icases HP with ⟨Hq, Hs, Ha, Hl⟩
  ihave H2 := (owns_halves (c : Thread nD τ) (slotM (par h)) fullShare (dat KV c h)).1 $$ Hs
  icases H2 with ⟨Hs1, Hs2⟩
  ihave Hs1 := (owns_elim c (slotM (par h)) _ _) $$ Hs1
  icases Hs1 with ⟨%fs, %hfs, Hs1⟩
  ihave Hn := (owns_elim (nxt c) (slotM (par (h + 1))) _ _) $$ Hn
  icases Hn with ⟨%fd, -, Hn⟩
  iapply (Rounds.wp_send_pointsTo 𝒱₀ ER (Rd KV) (c : Thread nD τ) none (c' := (nxt c : Thread nD τ)) (src := slotM (par h)) (dst := slotM (par (h + 1)))
      (sS := .dma (sD h)) (sem := .dma (rD h)) (q := fullShare.left) (fs := fs) (κ₁ := κ (sendC c h)) (κ₂ := κ (recvC (nxt c) h))
      (r₁ := 0) (r₂ := 0) (d₁ := false) (d₂ := false) (fd := fd)
      (by rw [duties_send KV c hh]; exact Finset.mem_singleton_self _) (by rw [duties_recv KV (nxt c) hh]; exact Finset.mem_singleton_self _)
      () () N (N_slot _) rfl rfl O rfl (W := W)
      (by
        rw [pay_send KV c hh]; unfold sendPay owns
        iintro H; iexists fs; isplitr; · ipureintro; exact hfs
        iexact H)
      (by rw [pay_recv KV (nxt c) hh]; exact landed KV c h (par h) fs hfs fd)) $$ [Hs1 Hn HO HtS HtN]
  · isplitr; · iexact HIs
    isplitr; · iapply (inv_at KV κ (recv_mem (nxt c) hh)); iexact HR
    isplitl [Hs1]; · iexact Hs1
    isplitl [Hn]; · iexact Hn
    isplitl [HO]; · iexact HO
    isplitl [HtS]; · iexact HtS
    isplitr; · iexact HrS
    isplitl [HtN]; · iexact HtN
    iapply (recv_open KV c κ hh); iexact HC
  iintro ⟨HcS, HO⟩
  iapply (hp _) $$ [Hq Hs2 Ha Hl]
  · unfold passS
    isplitl [Hq]; · iexact Hq
    isplitl [Hs2]; · iexact Hs2
    isplitl [Ha]; · iexact Ha
    iexact Hl
  unfold passS
  iintro ⟨Hq, Hs2, Ha, Hl⟩
  iapply (Rounds.wp_wait_rest_token 𝒱₀ ER (Rd KV) (c : Thread nD τ) none (κ := κ (sendC c h))
      (wpE_waitDma2_eq (src := slotM (par (h + 1))) (dst := slotM (par h)) 𝒱₀ (c : Thread nD τ) none Set.univ) (Set.mem_univ _) () (O := O) (W := W) (R := 0) (m := 0) (T := ∅)
      ((Nat.zero_add _).trans (expect_send KV c hh).symm)) $$ [HcS HO HatS]
  · isplitr; · iexact HIs
    isplitl [HcS]; · iexact HcS
    isplitl [HO]; · iexact HO
    isplitr
    · iapply (mayWait_of c (.dma (sD h)) O (2 * h + 2) (le_of_eq_of_le (lv_send hh) (Nat.zero_le _)) hO); iexact HL
    iexact HatS
  iintro ⟨HO, HatS, -, Hpay⟩
  ihave Hs1 := (Entails.of_eq (rest_send KV c hh)) $$ Hpay
  imod (close KV (κ (sendC c h)) (sendC c h)) $$ [HatS] with Hv1
  · isplitr; · iexact HIs
    iexact HatS
  iapply (Rounds.wp_wait_rest_token 𝒱₀ ER (Rd KV) (c : Thread nD τ) none (κ := κ (recvC c h))
      (wpE_waitDma2_eq (src := slotM (par h)) (dst := slotM (par (h + 1))) 𝒱₀ (c : Thread nD τ) none Set.univ) (Set.mem_univ _) () (O := O)
      (W := insert (SemLoc.dma (sD h), ()) W) (R := 0) (m := 0) (T := ∅)
      ((Nat.zero_add _).trans (expect_recv KV c hh).symm)) $$ [HcV HO HatV]
  · isplitr; · iexact HIv
    isplitl [HcV]; · iexact HcV
    isplitl [HO]; · iexact HO
    isplitr
    · iapply (mayWait_of c (.dma (rD h)) O (2 * h + 2) (le_of_eq (lv_recv hh)) hO); iexact HL
    iexact HatV
  iintro ⟨HO, HatV, -, Hpay⟩
  ihave Hb := (Entails.of_eq (rest_recv KV c hh)) $$ Hpay
  imod (close KV (κ (recvC c h)) (recvC c h)) $$ [HatV] with Hv2
  · isplitr; · iexact HIv
    iexact HatV
  iapply HK
  isplitl [Hq Hs1 Hs2 Ha Hl]
  · isplitl [Hq]; · iexact Hq
    isplitl [Hs1 Hs2]
    · iapply (owns_halves (c : Thread nD τ) (slotM (par h)) fullShare (dat KV c h)).2
      isplitl [Hs1]
      · unfold sendPay; iexact Hs1
      iexact Hs2
    isplitl [Ha]; · iexact Ha
    iexact Hl
  isplitl [Hb]
  · unfold recvPay; iexact Hb
  isplitl [Hv1 Hv2]
  · isplitl [Hv1]; · iexact Hv1
    iexact Hv2
  iexists _; iexact HO

/-! ### The state between hops -/

/-- The two accumulators after the passes over the first `n` blocks. -/
def accN (X : S64x256x64.Idx → Elt F .bf16) : ℕ → S64x64x256.Idx → Elt F .f32
  | 0 => k0_pay244 (F := F)
  | n + 1 => aNew X (dat KV c n) (accN X n)
def lN (X : S64x256x64.Idx → Elt F .bf16) : ℕ → S64x1x256.Idx → Elt F .f32
  | 0 => k0_pay243 (F := F)
  | n + 1 => lNew X (dat KV c n) (lN X n)

/-- What the waits of a hop, and of a credit exchange, leave: their counters at zero. -/
def sendDone (h : ℕ) : sProp 𝕄 := iprop(semVal (sendC c h) 0 ∗ semVal (recvC c h) 0)
def freeDone (f : ℕ) : sProp 𝕄 := semVal (freeC c f) 0

/-- Before hop `f + 1`. -/
def St (q : Memref sig .tc .vmem S64x256x64 .bf16) (X : S64x256x64.Idx → Elt F .bf16) (f : ℕ) : sProp 𝕄 :=
  iprop(passS c q kvM accM lM fullShare fullShare X (dat KV c (f + 1)) (accN KV c X (f + 1)) (lN KV c X (f + 1)) (par (f + 1))
    ∗ owns (c : Thread nD τ) (slotM (par f)) fullShare (dat KV c f)
    ∗ (∃ W, owes (c : Thread nD τ) (oweFrom c f (14 - f)) W)
    ∗ (bigSep (Finset.Ico f 14) fun f => freeRes c f) ∗ (bigSep (Finset.Ico (f + 1) 15) fun h => sendRes c h)
    ∗ (bigSep (Finset.range f) fun f => freeDone c f) ∗ (bigSep (Finset.range (f + 1)) fun h => sendDone c h))

theorem peel (Φ : ℕ → sProp 𝕄) {a n : ℕ} (h : a < n) : bigSep (Finset.Ico a n) Φ = iprop(Φ a ∗ bigSep (Finset.Ico (a + 1) n) Φ) := by
  have e : Finset.Ico a n = insert a (Finset.Ico (a + 1) n) := by
    ext x; simp only [Finset.mem_insert, Finset.mem_Ico]; omega
  rw [e, bigSep_insert (by simp)]; rfl

theorem pushed (Φ : ℕ → sProp 𝕄) (n : ℕ) : bigSep (Finset.range (n + 1)) Φ = iprop(Φ n ∗ bigSep (Finset.range n) Φ) := by
  rw [Finset.range_add_one, bigSep_insert Finset.notMem_range_self]; rfl

/-- Hop `f + 1` after its credit exchange. -/
theorem step_wp {f : ℕ} (hf : f < 14) (a b : Fin 2) (hab : par (f + 1) = a) (hbb : par (f + 2) = b)
    (ha : (slotM a).view.WordExact) (hb : (slotM b).view.WordExact)
    (ht : DmaTarget.Typed (nD := nD) (τ := τ) (p := .tc) .vmem (.dma (rD (f + 1)) : SemLoc sig) (.remote (Dev.tc (nxt c)) (slotM b) (.dma (sD (f + 1))))) (p : PR F Unit)
    (q : Memref sig .tc .vmem S64x256x64 .bf16) (X : S64x256x64.Idx → Elt F .bf16) {α : Type} {Q : α → sProp 𝕄}
    (hp : ∀ (A : S64x64x256.Idx → Elt F .f32) (Lc : S64x1x256.Idx → Elt F .f32) (k : Unit → PR F α),
      (passS c q kvM accM lM fullShare fullShare.right X (dat KV c (f + 1)) A Lc a : sProp 𝕄)
      ⊢ iprop((passS c q kvM accM lM fullShare fullShare.right X (dat KV c (f + 1)) (aNew X (dat KV c (f + 1)) A) (lNew X (dat KV c (f + 1)) Lc) a
            -∗ wp frame (wpE (defs₀ (F := F)) 𝒱₀ (c : Thread nD τ) none) Set.univ (k ⟨⟩) Q)
        -∗ wp frame (wpE (defs₀ (F := F)) 𝒱₀ (c : Thread nD τ) none) Set.univ (p >>= k) Q))
    (k : Unit → PR F α) :
    (iprop(ctx KV κ c ∗ levs ∗ St KV c q X f) : sProp 𝕄)
      ⊢ iprop((St KV c q X (f + 1) -∗ wp frame (wpE (defs₀ (F := F)) 𝒱₀ (c : Thread nD τ) none) Set.univ (k ⟨⟩) Q)
        -∗ wp frame (wpE (defs₀ (F := F)) 𝒱₀ (c : Thread nD τ) none) Set.univ
            (credit (prv c) (fS f) >>= fun _ => hopG a b (nxt c) (sD (f + 1)) (rD (f + 1)) ha hb ht p >>= k) Q) := by
  subst hab hbb
  have e14 : 14 - f = (14 - (f + 1)) + 1 := by omega
  have hfree : ∀ g u, 0 < (oweFrom c (f + 1) (14 - (f + 1)) + tallyAt (recvC (nxt c) (f + 1)) () N) g u → g.1.2 = .tc ∧ 2 * f + 3 < lvS g.2 := by
    intro g u h
    rw [Pi.add_apply, Finsupp.add_apply] at h
    rcases Nat.eq_zero_or_pos (tallyAt (recvC (nxt c) (f + 1)) () N g u) with h2 | h2
    · have := oweFrom_pos c g u (14 - (f + 1)) (f + 1) (by omega) (by omega)
      exact ⟨this.1, by omega⟩
    · have := tally_pos h2
      subst this
      exact ⟨rfl, by rw [lv_recv (by omega)]; omega⟩
  unfold St
  rw [e14, oweFrom, peel _ hf, peel _ (show f + 1 < 15 by omega), pushed (fun f => freeDone c f) f, pushed (fun h => sendDone c h) (f + 1)]
  iintro ⟨#HC, #HL, HP, Hold, ⟨%W, HO⟩, ⟨Hf, HF⟩, ⟨Hr, HR⟩, HFd, HRd⟩ HK
  iapply (credit_wp KV c κ hf _ hfree W _) $$ [Hold Hf HO]
  · isplitr; · iexact HC
    isplitr; · iexact HL
    isplitl [Hold]
    · unfold slotAny; iexists _; iexact Hold
    isplitl [Hf]; · iexact Hf
    iexact HO
  iintro ⟨Hn, Hv, ⟨%W, HO⟩⟩
  iapply (hop_wp KV c κ (show f + 1 < 15 by omega) (par (f + 1)) (par (f + 2)) rfl rfl ha hb ht p q X _ _ _
    (fun g u h => oweFrom_pos c g u (14 - (f + 1)) (f + 1) (by omega) h) W (hp _ _) k) $$ [HP Hn Hr HO]
  · isplitr; · iexact HC
    isplitr; · iexact HL
    isplitl [HP]; · iexact HP
    isplitl [Hn]
    · rw [par_two]; iexact Hn
    isplitl [Hr]; · iexact Hr
    iexact HO
  iintro ⟨HP, Hb, Hd, HO⟩
  iapply HK
  unfold passS
  icases HP with ⟨Hq, Hs, Ha, Hl⟩
  isplitl [Hq Hb Ha Hl]
  · isplitl [Hq]; · iexact Hq
    isplitl [Hb]; · iexact Hb
    isplitl [Ha]; · iexact Ha
    iexact Hl
  isplitl [Hs]; · iexact Hs
  isplitl [HO]; · iexact HO
  isplitl [HF]; · iexact HF
  isplitl [HR]; · iexact HR
  isplitl [Hv HFd]
  · isplitl [Hv]
    · unfold freeDone; iexact Hv
    iexact HFd
  isplitl [Hd]
  · unfold sendDone; iexact Hd
  iexact HRd

/-- Two hops, as the program writes them. -/
theorem pair_wp (k : ℕ) (hk : k < 7) (q : Memref sig .tc .vmem S64x256x64 .bf16) (X : S64x256x64.Idx → Elt F .bf16)
    {α : Type} {Q : α → sProp 𝕄} (kk : Unit → PR F α) :
    (iprop(ctx KV κ c ∗ levs ∗ St KV c q X (2 * k)) : sProp 𝕄)
      ⊢ iprop((St KV c q X (2 * k + 2) -∗ wp frame (wpE (defs₀ (F := F)) 𝒱₀ (c : Thread nD τ) none) Set.univ (kk ⟨⟩) Q)
        -∗ wp frame (wpE (defs₀ (F := F)) 𝒱₀ (c : Thread nD τ) none) Set.univ
            (pair q kvM (Memref.isWhole_whole _) accM lM cc0_scratch3 cc0_scratch4 cc0_scratch5 c k hk >>= kk) Q) := by
  unfold pair
  rw [csem_free, csem_free, dsem_send, dsem_send, dsem_recv, dsem_recv, leftP_eq, rightP_eq]
  simp only [bind_assoc]
  iintro ⟨#HC, #HL, HS⟩ HK
  iapply (step_wp KV c κ (f := 2 * k) (by omega) 1 0 (Fin.ext (by show (2 * k + 1) % 2 = 1; omega)) (Fin.ext (by show (2 * k + 2) % 2 = 0; omega))
    _ _ _ (proc1 q kvM accM lM) q X (fun A Lc k' => proc1_wp c q kvM accM lM fullShare fullShare.right X _ A Lc k') _) $$ [HS]
  · isplitr; · iexact HC
    isplitr; · iexact HL
    iexact HS
  iintro HS
  iapply (step_wp KV c κ (f := 2 * k + 1) (by omega) 0 1 (Fin.ext (by show (2 * k + 1 + 1) % 2 = 0; omega)) (Fin.ext (by show (2 * k + 1 + 2) % 2 = 1; omega))
    _ _ _ (proc0 q kvM accM lM) q X (fun A Lc k' => proc0_wp c q kvM accM lM fullShare fullShare.right X _ A Lc k') _) $$ [HS]
  · isplitr; · iexact HC
    isplitr; · iexact HL
    iexact HS
  iexact HK

/-- What the body starts from besides the windows' stages: … -/
def bodyPre : sProp 𝕄 :=
  iprop(records KV κ ∗ levs ∗ atPos ER (barC c) 0 ∅ 0 ∗ cred (tallyAt (barC c) () 2)
    ∗ dutyTok ER (barC (prv c)) 0 true ∗ dutyTok ER (barC (nxt c)) 0 false
    ∗ (bigSep (Finset.range 15) fun h => reached ER (recvC c h) 0) ∗ barL c
    ∗ (bigSep (Finset.range 15) fun h => sendRes c h) ∗ (bigSep (Finset.range 14) fun f => freeRes c f))

/-- … its scratch buffers, at contents not chosen; … -/
def scratchAny : sProp 𝕄 :=
  iprop((slotAny c 0 ∗ slotAny c 1) ∗ (∃ A, owns (c : Thread nD τ) accM fullShare A) ∗ ∃ Lc, owns (c : Thread nD τ) lM fullShare Lc)

/-- … and what it leaves: every counter at zero. -/
def bodyPost : sProp 𝕄 :=
  iprop(semVal (barC c) 0 ∗ (bigSep (Finset.range 15) fun h => sendDone c h) ∗ (bigSep (Finset.range 14) fun f => freeDone c f))

theorem range_Ico (Φ : ℕ → sProp 𝕄) (n : ℕ) : bigSep (Finset.range n) Φ = bigSep (Finset.Ico 0 n) Φ := by
  rw [Finset.range_eq_Ico]

set_option maxHeartbeats 1000000 in
theorem body_wp (q k v : Memref sig .tc .vmem S64x256x64 .bf16) (o : Memref sig .tc .vmem S64x64x256 .f32)
    (X K V : S64x256x64.Idx → Elt F .bf16) (O : S64x64x256.Idx → Elt F .f32) (hKV : KV c = pairKV K V) (W : Waits sig Unit) {Q : PUnit → sProp 𝕄} :
    (iprop(bodyPre KV c κ ∗ scratchAny c ∗ owns (c : Thread nD τ) q fullShare X ∗ owns (c : Thread nD τ) k fullShare K ∗ owns (c : Thread nD τ) v fullShare V
        ∗ owns (c : Thread nD τ) o fullShare O ∗ owes (c : Thread nD τ) (O₀ c) W) : sProp 𝕄)
      ⊢ iprop((iprop(bodyPost c ∗ scratchAny c ∗ owns (c : Thread nD τ) q fullShare X ∗ owns (c : Thread nD τ) k fullShare K ∗ owns (c : Thread nD τ) v fullShare V
            ∗ owns (c : Thread nD τ) o fullShare (k0_pay261 (accN KV c X 16) (lN KV c X 16)) ∗ ∃ W, owes (c : Thread nD τ) (0 : CellTallies nD τ sig Unit) W)
            -∗ |={Set.univ}=> Q ⟨⟩)
        -∗ wp frame (wpE (defs₀ (F := F)) 𝒱₀ (c : Thread nD τ) none) Set.univ
            (prog q k v o kvM (Memref.isWhole_whole _) accM lM cc0_scratch3 cc0_scratch4 cc0_scratch5) Q) := by
  unfold prog barP semSignalWord semWaitWord bodyPre scratchAny
  simp only [bind_assoc, Prog.bind_lift, Prog.bind_op, Prog.bind_ret, wp_deviceId]
  rw [bar_sem, leftP_eq, rightP_eq, dsem_send, dsem_recv, range_Ico (fun h => sendRes c h) 15, peel (fun h => sendRes c h) (show 0 < 15 by omega),
    range_Ico (fun f => freeRes c f) 14]
  iintro ⟨⟨#HR, #HL, HatB, HcB, HtP, HtN, #HrV, #HrF, HSR, HFR⟩, ⟨⟨Hs0, Hs1⟩, ⟨%A, Ha⟩, ⟨%Lc, Hl⟩⟩, Hq, Hk, Hv, Ho, HO⟩ HK
  -- the barrier
  iapply (Rounds.wp_signal 𝒱₀ ER (Rd KV) (c : Thread nD τ) none (dst := (prv c : Thread nD τ)) (sem := bS) (r := 0) (d := true) (κ := κ (barC (prv c)))
      (by rw [duties_bar]; decide) rfl () (oweHops c + tallyAt (barC (nxt c)) () 1) rfl) $$ [HO HtP Hs1]
  · isplitr; · iapply (inv_at KV κ (bar_mem (prv c))); iexact HR
    isplitl [HO]; · iexact HO
    isplitl [HtP]; · iexact HtP
    isplitl [Hs1]
    · rw [pay_barR, nxt_prv]; unfold barR
      isplitl [Hs1]; · iexact Hs1
      iexact HrV
    · iapply (reached_at KV κ (prv c)); iexact HR
  iintro HO
  iapply (Rounds.wp_signal 𝒱₀ ER (Rd KV) (c : Thread nD τ) none (dst := (nxt c : Thread nD τ)) (sem := bS) (r := 0) (d := false) (κ := κ (barC (nxt c)))
      (by rw [duties_bar]; decide) rfl () (oweHops c) rfl) $$ [HO HtN]
  · isplitr; · iapply (inv_at KV κ (bar_mem (nxt c))); iexact HR
    isplitl [HO]; · iexact HO
    isplitl [HtN]; · iexact HtN
    isplitr
    · rw [pay_barL, prv_nxt]; iexact HrF
    · iapply (reached_at KV κ (nxt c)); iexact HR
  iintro HO
  iapply (Rounds.wp_wait_rest_token 𝒱₀ ER (Rd KV) (c : Thread nD τ) none (κ := κ (barC c))
      (wpE_semWait_eq 𝒱₀ (c : Thread nD τ) none Set.univ) (Set.mem_univ _) () (O := oweHops c) (W := W) (R := 0) (m := 0) (T := ∅)
      ((Nat.zero_add 2).trans (expect_bar KV c).symm)) $$ [HcB HO HatB]
  · isplitr; · iapply (inv_at KV κ (bar_mem c)); iexact HR
    isplitl [HcB]; · iexact HcB
    isplitl [HO]; · iexact HO
    isplitr
    · iapply (mayWait_of c (.reg bS) (oweHops c) 1 (by decide) (oweHops_pos c)); iexact HL
    iexact HatB
  iintro ⟨HO, HatB, -, Hpay⟩
  ihave Hp := (Entails.of_eq (rest_bar KV c)) $$ Hpay
  imod (close KV (κ (barC c)) (barC c)) $$ [HatB] with Hb0
  · isplitr; · iapply (inv_at KV κ (bar_mem c)); iexact HR
    iexact HatB
  unfold barR
  icases Hp with ⟨⟨Hn, #HrVn⟩, #HrFp⟩
  ihave #HC := (show (iprop(records KV κ ∗ (bigSep (Finset.range 15) fun h => reached ER (recvC (nxt c) h) 0) ∗ barL (prv c)) : sProp 𝕄) ⊢ ctx KV κ c from .rfl) $$ [HR HrVn HrFp]
  · isplitr; · iexact HR
    isplitr; · iexact HrVn
    iexact HrFp
  -- the own blocks into slot 0, the accumulators cleared
  unfold slotAny
  icases Hs0 with ⟨%D, Hs0⟩
  iapply (fill_wp c k v kvM (Memref.isWhole_whole _) accM lM fullShare fullShare K V D A Lc _) $$ [Hk Hv Hs0 Ha Hl]
  · isplitl [Hk]; · iexact Hk
    isplitl [Hv]; · iexact Hv
    isplitl [Hs0]; · iexact Hs0
    isplitl [Ha]; · iexact Ha
    iexact Hl
  iintro ⟨Hk, Hv, Hs0, Ha, Hl⟩
  ihave Hs0 := (Entails.of_eq (congrArg (fun z => (owns (c : Thread nD τ) (slotM 0) fullShare z : sProp 𝕄)) (show pairKV K V = dat KV c 0 from hKV.symm))) $$ Hs0
  -- hop 0
  icases HSR with ⟨Hr, HSR⟩
  iapply (hop_wp KV c κ (show 0 < 15 by omega) 0 1 rfl rfl _ _ _ (proc0 q kvM accM lM) q X (accN KV c X 0) (lN KV c X 0) (oweFrom c 0 14)
    (fun g u h => by have := oweFrom_pos c g u 14 0 rfl h; exact ⟨this.1, by omega⟩) _
    (fun k' => proc0_wp c q kvM accM lM fullShare fullShare.right X _ _ _ k') _) $$ [Hq Hs0 Ha Hl Hn Hr HO]
  · isplitr; · iexact HC
    isplitr; · iexact HL
    isplitl [Hq Hs0 Ha Hl]
    · unfold passS
      isplitl [Hq]; · iexact Hq
      isplitl [Hs0]; · iexact Hs0
      isplitl [Ha]; · iexact Ha
      iexact Hl
    isplitl [Hn]; · unfold slotAny; iexact Hn
    isplitl [Hr]; · iexact Hr
    iexact HO
  unfold passS
  iintro ⟨⟨Hq, Hs0, Ha, Hl⟩, Hs1, Hd, HO⟩
  ihave HS := (show (iprop((owns (c : Thread nD τ) q fullShare X ∗ owns (c : Thread nD τ) (slotM 1) fullShare (dat KV c 1)
      ∗ owns (c : Thread nD τ) accM fullShare (accN KV c X 1) ∗ owns (c : Thread nD τ) lM fullShare (lN KV c X 1))
    ∗ owns (c : Thread nD τ) (slotM 0) fullShare (dat KV c 0)
    ∗ (∃ W, owes (c : Thread nD τ) (oweFrom c 0 14) W)
    ∗ (bigSep (Finset.Ico 0 14) fun f => freeRes c f) ∗ (bigSep (Finset.Ico 1 15) fun h => sendRes c h)
    ∗ (bigSep (Finset.range 0) fun f => freeDone c f) ∗ (bigSep (Finset.range 1) fun h => sendDone c h)) : sProp 𝕄) ⊢ St KV c q X 0 from .rfl) $$ [Hq Hs0 Hs1 Ha Hl HO HFR HSR Hd]
  · isplitl [Hq Hs1 Ha Hl]
    · isplitl [Hq]; · iexact Hq
      isplitl [Hs1]; · iexact Hs1
      isplitl [Ha]; · iexact Ha
      iexact Hl
    isplitl [Hs0]; · iexact Hs0
    isplitl [HO]; · iexact HO
    isplitl [HFR]; · iexact HFR
    isplitl [HSR]; · iexact HSR
    rw [Finset.range_zero, bigSep_empty, Finset.range_one, bigSep_singleton]
    isplitr; · iempintro
    unfold sendDone; iexact Hd
  -- the other fourteen
  iapply (pair_wp KV c κ 0 _ q X _) $$ [HS]
  · isplitr; · iexact HC
    isplitr; · iexact HL
    iexact HS
  iintro HS
  iapply (pair_wp KV c κ 1 _ q X _) $$ [HS]
  · isplitr; · iexact HC
    isplitr; · iexact HL
    iexact HS
  iintro HS
  iapply (pair_wp KV c κ 2 _ q X _) $$ [HS]
  · isplitr; · iexact HC
    isplitr; · iexact HL
    iexact HS
  iintro HS
  iapply (pair_wp KV c κ 3 _ q X _) $$ [HS]
  · isplitr; · iexact HC
    isplitr; · iexact HL
    iexact HS
  iintro HS
  iapply (pair_wp KV c κ 4 _ q X _) $$ [HS]
  · isplitr; · iexact HC
    isplitr; · iexact HL
    iexact HS
  iintro HS
  iapply (pair_wp KV c κ 5 _ q X _) $$ [HS]
  · isplitr; · iexact HC
    isplitr; · iexact HL
    iexact HS
  iintro HS
  iapply (pair_wp KV c κ 6 _ q X _) $$ [HS]
  · isplitr; · iexact HC
    isplitr; · iexact HL
    iexact HS
  iintro HS
  ihave HS := (show St KV c q X (2 * 6 + 2) ⊢ (iprop(passS c q kvM accM lM fullShare fullShare X (dat KV c 15) (accN KV c X 15) (lN KV c X 15) 1
    ∗ owns (c : Thread nD τ) (slotM 0) fullShare (dat KV c 14)
    ∗ (∃ W, owes (c : Thread nD τ) (0 : CellTallies nD τ sig Unit) W)
    ∗ (bigSep (Finset.Ico 14 14) fun f => freeRes c f) ∗ (bigSep (Finset.Ico 15 15) fun h => sendRes c h)
    ∗ (bigSep (Finset.range 14) fun f => freeDone c f) ∗ (bigSep (Finset.range 15) fun h => sendDone c h)) : sProp 𝕄) from .rfl) $$ HS
  icases HS with ⟨HP, Hs0, HO, -, -, HFd, HSd⟩
  -- the last block
  iapply (proc1_wp c q kvM accM lM fullShare fullShare X _ _ _ _) $$ HP
  unfold passS
  iintro ⟨Hq, Hs1, Ha, Hl⟩
  iapply (finish_wp c o accM lM O _ _) $$ [Ho Ha Hl]
  · isplitl [Ho]; · iexact Ho
    isplitl [Ha]; · iexact Ha
    iexact Hl
  iintro ⟨Ho, Ha, Hl⟩
  iapply HK
  unfold bodyPost
  isplitl [Hb0 HFd HSd]
  · isplitl [Hb0]; · iexact Hb0
    isplitl [HSd]; · iexact HSd
    iexact HFd
  isplitl [Hs0 Hs1 Ha Hl]
  · isplitl [Hs0 Hs1]
    · isplitl [Hs0]; · iexists _; iexact Hs0
      iexists _; iexact Hs1
    isplitl [Ha]; · iexists _; iexact Ha
    iexists _; iexact Hl
  isplitl [Hq]; · iexact Hq
  isplitl [Hk]; · iexact Hk
  isplitl [Hv]; · iexact Hv
  isplitl [Ho]; · iexact Ho
  iexact HO

end Steps

end Cert.KernelIdeal.Ring

end
-- ==== Proof.KernelIdeal.Region.lean ====
/- The region as a certificate's data: what the kernel's invariant holds before and after its one grid point,
   the body obligation, and the region's entry and exit. -/
module

public import proofs.«01_k».proof.Proof.KernelIdeal.Body
public import proofs.«01_k».proof.Proof.Gen.KernelIdeal.Frame
public import Idealize.ShloMosaic.Lib.Pipeline.RegionTalk

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The two slots are the whole buffer -/

theorem slot_mem_iff (s : Fin 2) (i : S2x2x64x256x64.Idx) : i ∈ (slotM s).view.set ↔ i 0 = s := by
  constructor
  · intro h
    obtain ⟨y, -, rfl⟩ := Finset.mem_map.mp h
    exact congrFun (slotG_emb kvM s y) 0
  · intro h
    refine Finset.mem_map.mpr ⟨ix4 (i 1) (i 2) (i 3) (i 4), Finset.mem_univ _, ?_⟩
    rw [slotG_emb]
    show slotIx s _ = i
    funext a
    match a with
    | ⟨0, _⟩ => exact h.symm
    | ⟨1, _⟩ => rfl
    | ⟨2, _⟩ => rfl
    | ⟨3, _⟩ => rfl
    | ⟨4, _⟩ => rfl

theorem slot_disj : Disjoint (slotM 0).view.set (slotM 1).view.set := by
  rw [Finset.disjoint_left]
  intro i h0 h1
  have a := (slot_mem_iff 0 i).mp h0
  have b := (slot_mem_iff 1 i).mp h1
  exact absurd (a.symm.trans b) (show ¬ (0 : Fin 2) = 1 by decide)

theorem slot_union : (slotM 0).view.set ∪ (slotM 1).view.set = Finset.univ := by
  refine Finset.eq_univ_of_forall fun i => Finset.mem_union.mpr ?_
  have : ∀ x : Fin 2, x = 0 ∨ x = 1 := by decide
  rcases this (i 0) with h | h
  · exact .inl ((slot_mem_iff 0 i).mpr h)
  · exact .inr ((slot_mem_iff 1 i).mpr h)

section Scratch
variable (c : Dev nD)

theorem slotAny_intro (s : Fin 2) (f : Buf (Elt F) ((c : Thread nD τ).loc cc0_scratch0)) :
    (((c : Thread nD τ).loc cc0_scratch0) ↦[(slotM s).view.set]{fullShare} f : sProp 𝕄) ⊢ slotAny c s := by
  unfold slotAny owns
  iintro H
  iexists (slotM s).view.read (Elt F) f
  iexists f
  isplitr; · ipureintro; rfl
  iexact H

theorem slotAny_elim (s : Fin 2) :
    (slotAny c s : sProp 𝕄) ⊢ iprop(∃ f : Buf (Elt F) ((c : Thread nD τ).loc cc0_scratch0), ((c : Thread nD τ).loc cc0_scratch0) ↦[(slotM s).view.set]{fullShare} f) := by
  unfold slotAny owns
  iintro ⟨%D, %f, -, H⟩
  iexists f
  iexact H

theorem slots_of_whole (f : Buf (Elt F) ((c : Thread nD τ).loc cc0_scratch0)) :
    (((c : Thread nD τ).loc cc0_scratch0) ↦{fullShare} f : sProp 𝕄) ⊢ iprop(slotAny c 0 ∗ slotAny c 1) := by
  have e : (((c : Thread nD τ).loc cc0_scratch0) ↦{fullShare} f : sProp 𝕄)
      = ((c : Thread nD τ).loc cc0_scratch0) ↦[(slotM 0).view.set ∪ (slotM 1).view.set]{fullShare} f :=
    congrArg (fun S => (((c : Thread nD τ).loc cc0_scratch0) ↦[S]{fullShare} f : sProp 𝕄)) slot_union.symm
  rw [e]
  iintro H
  ihave H' := (pointsTo_union slot_disj).1 $$ H
  icases H' with ⟨H0, H1⟩
  isplitl [H0]
  · iapply (slotAny_intro c 0 f); iexact H0
  · iapply (slotAny_intro c 1 f); iexact H1

theorem whole_of_slots : (iprop(slotAny c 0 ∗ slotAny c 1) : sProp 𝕄)
    ⊢ iprop(∃ f : Buf (Elt F) ((c : Thread nD τ).loc cc0_scratch0), ((c : Thread nD τ).loc cc0_scratch0) ↦{fullShare} f) := by
  iintro ⟨H0, H1⟩
  ihave H0' := (slotAny_elim c 0) $$ H0
  ihave H1' := (slotAny_elim c 1) $$ H1
  icases H0' with ⟨%f, H0⟩
  icases H1' with ⟨%g, H1⟩
  iexists (slotM 1).view.set.piecewise g f
  iapply (show (((c : Thread nD τ).loc cc0_scratch0) ↦[(slotM 0).view.set ∪ (slotM 1).view.set]{fullShare} ((slotM 1).view.set.piecewise g f) : sProp 𝕄)
      ⊢ ((c : Thread nD τ).loc cc0_scratch0) ↦{fullShare} ((slotM 1).view.set.piecewise g f) from
    Entails.of_eq (congrArg (fun S => (((c : Thread nD τ).loc cc0_scratch0) ↦[S]{fullShare} ((slotM 1).view.set.piecewise g f) : sProp 𝕄)) slot_union))
  iapply (pointsTo_join slot_disj)
  isplitl [H0] <;> iassumption

theorem scratch_in : (Pipeline.scopedRest (Ix := Unit) (Name := ℕ) (U := UU) (Lvl := ℕ) (Val := Elt F) spec0 c : sProp 𝕄) ⊢ scratchAny c := by
  rw [scopedRest0_eq]
  unfold scratchAny
  iintro ⟨⟨%f, H0⟩, ⟨%A, H1⟩, ⟨%Lc, H2⟩⟩
  isplitl [H0]; · iapply (slots_of_whole c f); iexact H0
  isplitl [H1]
  · iexists A; iapply (Entails.of_eq (owns_whole (c : Thread nD τ) cc0_scratch1 fullShare A).symm); iexact H1
  · iexists Lc; iapply (Entails.of_eq (owns_whole (c : Thread nD τ) cc0_scratch2 fullShare Lc).symm); iexact H2

theorem scratch_out : (scratchAny c : sProp 𝕄) ⊢ Pipeline.scopedRest (Ix := Unit) (Name := ℕ) (U := UU) (Lvl := ℕ) (Val := Elt F) spec0 c := by
  rw [scopedRest0_eq]
  unfold scratchAny
  iintro ⟨Hs, ⟨%A, H1⟩, ⟨%Lc, H2⟩⟩
  isplitl [Hs]; · iapply (whole_of_slots c); iexact Hs
  isplitl [H1]
  · iexists A; iapply (Entails.of_eq (owns_whole (c : Thread nD τ) cc0_scratch1 fullShare A)); iexact H1
  · iexists Lc; iapply (Entails.of_eq (owns_whole (c : Thread nD τ) cc0_scratch2 fullShare Lc)); iexact H2

end Scratch

/-! ## Contents -/

variable (m : (ℓ : Loc nD τ sig) → Buf (Elt F) ℓ)

/-- Device `c`'s buffers at launch, and when the region is entered. -/
abbrev Vl (c : Dev nD) : Valuation τ sig (Elt F) := fun b => m (c, b)
abbrev V₁ (c : Dev nD) : Valuation τ sig (Elt F) := StableHlo.after hostOps0 (Vl m c)

/-- A window's block as staged. -/
def blkOf (c : Dev nD) (w : Fin cfg0.W) : ((cfg0.win w).xblock (cfg0.grid.coords t0_0)).Idx → Elt F (cfg0.win w).elt :=
  ((cfg0.win w).blk t0_0).view.read (Elt F) (V₁ m c (Proc.devRef .tc (Pipeline.arrRef spec0 w)))

abbrev Xq (c : Dev nD) : S64x256x64.Idx → Elt F .bf16 := blkOf m c 0
abbrev Kq (c : Dev nD) : S64x256x64.Idx → Elt F .bf16 := blkOf m c 1
abbrev Vq (c : Dev nD) : S64x256x64.Idx → Elt F .bf16 := blkOf m c 2

/-- The pair each device starts with. -/
def KVm (c : Dev nD) : S2x64x256x64.Idx → Elt F .bf16 := pairKV (Kq m c) (Vq m c)

/-- What the body leaves in the result's staging buffer. -/
def outB (c : Dev nD) : S64x64x256.Idx → Elt F .f32 := k0_pay261 (accN (KVm m) c (Xq m c) 16) (lN (KVm m) c (Xq m c) 16)

/-! ## The proof data -/

/-- Before the one point: … -/
def ΦIn (c : Dev nD) : sProp 𝕄 := iprop((∃ κ, bodyPre (KVm m) c κ) ∗ scratchAny c ∗ ∃ r, prngReg c r)
/-- … and after it. -/
def ΦOut (c : Dev nD) : sProp 𝕄 := iprop(bodyPost c ∗ scratchAny c ∗ ∃ r, prngReg c r)

def datR (c : Dev nD) : Dat τ (Elt F) Unit ℕ UU ℕ cfg0 c where
  A w := V₁ m c (Proc.devRef .tc (Pipeline.arrRef spec0 w))
  after w _ := match w with
    | ⟨0, _⟩ => Xq m c
    | ⟨1, _⟩ => Kq m c
    | ⟨2, _⟩ => Vq m c
    | ⟨3, _⟩ => outB m c
  Φ t := if t.val = 0 then ΦIn m c else ΦOut c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => datR m

theorem Φ_first (c : Dev nD) : (datR m c).Φ t0_0.castSucc = ΦIn m c := by
  show (if (t0_0.castSucc : Fin (cfg0.N + 1)).val = 0 then ΦIn m c else ΦOut c) = _; exact if_pos rfl
theorem Φ_next (c : Dev nD) : (datR m c).Φ t0_0.succ = ΦOut c := by
  show (if (t0_0.succ : Fin (cfg0.N + 1)).val = 0 then ΦIn m c else ΦOut c) = _; exact if_neg (Nat.succ_ne_zero _)
theorem owed_first (c : Dev nD) : (datR m c).owed t0_0.castSucc = O₀ c := by
  show (if (t0_0.castSucc : Fin (cfg0.N + 1)).val = 0 then O₀ c else 0) = O₀ c; exact if_pos rfl
theorem owed_next (c : Dev nD) : (datR m c).owed t0_0.succ = 0 := by
  show (if (t0_0.succ : Fin (cfg0.N + 1)).val = 0 then O₀ c else 0) = 0; exact if_neg (Nat.succ_ne_zero _)
theorem Φ_zero (c : Dev nD) : (pdats m 0 c).Φ 0 = ΦIn m c := by
  show (if (0 : Fin (cfg0.N + 1)).val = 0 then ΦIn m c else ΦOut c) = _; exact if_pos rfl
theorem Φ_last (c : Dev nD) : (pdats m 0 c).Φ (Fin.last _) = ΦOut c := by
  show (if (Fin.last cfg0.N).val = 0 then ΦIn m c else ΦOut c) = _
  rw [Fin.val_last, if_neg (by rw [show cfg0.N = 1 from N_0]; decide)]
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem before_q (c : Dev nD) (d : (cfg0.win 0).block.Idx → Elt F (cfg0.win 0).elt) : (datR m c).before 0 t0_0 d = Xq m c := by
  unfold Dat.before; rw [if_pos (fetch0_0 t0_0)]; rfl
theorem before_k (c : Dev nD) (d : (cfg0.win 1).block.Idx → Elt F (cfg0.win 1).elt) : (datR m c).before 1 t0_0 d = Kq m c := by
  unfold Dat.before; rw [if_pos (fetch0_1 t0_0)]; rfl
theorem before_v (c : Dev nD) (d : (cfg0.win 2).block.Idx → Elt F (cfg0.win 2).elt) : (datR m c).before 2 t0_0 d = Vq m c := by
  unfold Dat.before; rw [if_pos (fetch0_2 t0_0)]; rfl

theorem owesAt_in {c : Dev nD} (dat : Dat τ (Elt F) Unit ℕ UU ℕ cfg0 c) (t : Fin (cfg0.N + 1)) (O : CellTallies nD τ sig Unit)
    (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_out {c : Dev nD} (dat : Dat τ (Elt F) Unit ℕ UU ℕ cfg0 c) (t : Fin (cfg0.N + 1)) (O : CellTallies nD τ sig Unit)
    (h0 : dat.owed t = O) : (dat.owesAt () t : sProp 𝕄) ⊢ iprop(∃ W, owes (c : Thread nD τ) O W) := by
  unfold Dat.owesAt Pipeline.owesWithin; rw [h0]
  iintro ⟨%W, -, HO⟩; iexists W; iexact HO

/-! ## The body obligation -/

theorem body_run (c : Dev nD) (κ : GSem nD τ sig → ℕ) (q k v : Memref sig .tc .vmem S64x256x64 .bf16) (o : Memref sig .tc .vmem S64x64x256 .f32)
    (hq : q.IsWhole) (hk : k.IsWhole) (hv : v.IsWhole) (ho : o.IsWhole) (O : S64x64x256.Idx → Elt F .f32) (W : Waits sig Unit) {Q : PUnit → sProp 𝕄} :
    (iprop(bodyPre (KVm m) c κ ∗ scratchAny c ∗ owns (c : Thread nD τ) q fullShare (Xq m c) ∗ owns (c : Thread nD τ) k fullShare (Kq m c)
        ∗ owns (c : Thread nD τ) v fullShare (Vq m c) ∗ owns (c : Thread nD τ) o fullShare O ∗ owes (c : Thread nD τ) (O₀ c) W) : sProp 𝕄)
      ⊢ iprop((iprop(bodyPost c ∗ scratchAny c ∗ owns (c : Thread nD τ) q fullShare (Xq m c) ∗ owns (c : Thread nD τ) k fullShare (Kq m c)
            ∗ owns (c : Thread nD τ) v fullShare (Vq m c) ∗ owns (c : Thread nD τ) o fullShare (outB m c)
            ∗ ∃ W, owes (c : Thread nD τ) (0 : CellTallies nD τ sig Unit) W) -∗ |={Set.univ}=> Q ⟨⟩)
        -∗ wp frame (wpE (defs₀ (F := F)) 𝒱₀ (c : Thread nD τ) none) Set.univ
            (cc0_body q hq k hk v hv o ho (Memref.whole cc0_scratch0) (Memref.isWhole_whole _) (Memref.whole cc0_scratch1) (Memref.isWhole_whole _)
              (Memref.whole cc0_scratch2) (Memref.isWhole_whole _) cc0_scratch3 cc0_scratch4 cc0_scratch5) Q) := by
  rw [body_eq]
  exact body_wp (KVm m) c κ q k v o (Xq m c) (Kq m c) (Vq m c) O rfl W

theorem body_obl (c : Dev nD) : BodyObligation (datR m c) (defs₀ (F := F)) 𝒱₀ () Set.univ := fun t => by
  obtain rfl := fin_N0 t
  rw [bigSep_W0, bigSep_W0, Φ_first, Φ_next]
  unfold ΦIn ΦOut
  iintro ⟨⟨⟨%κ, Hpre⟩, Hsc, Hp⟩, HO, ⟨%d0, H0⟩, ⟨%d1, H1⟩, ⟨%d2, H2⟩, ⟨%d3, H3⟩⟩
  ihave HO' := (owesAt_out (datR m c) _ (O₀ c) (owed_first m c)) $$ HO
  icases HO' with ⟨%W, HO⟩
  rw [before_q, before_k, before_v]
  iapply (body_run m c κ _ _ _ _ _ _ _ _ _ W) $$ [Hpre Hsc HO H0 H1 H2 H3]
  · isplitl [Hpre]; · iexact Hpre
    isplitl [Hsc]; · iexact Hsc
    isplitl [H0]; · iexact H0
    isplitl [H1]; · iexact H1
    isplitl [H2]; · iexact H2
    isplitl [H3]; · iexact H3
    iexact HO
  iintro ⟨Hpost, Hsc, H0, H1, H2, H3, HO⟩
  imodintro
  isplitl [Hpost Hsc Hp]
  · isplitl [Hpost]; · iexact Hpost
    isplitl [Hsc]; · iexact Hsc
    iexact Hp
  isplitl [HO]; · iapply (owesAt_in (datR m c) t0_0.succ 0 (owed_next m c) rfl); iexact HO
  isplitl [H0]; · iexact H0
  isplitl [H1]; · iexact H1
  isplitl [H2]; · iexact H2
  iexact H3

end Cert.KernelIdeal.Ring

end
-- ==== Proof.KernelIdeal.Deal.lean ====
/- What the launch deals: the tokens, each to the device that pays the duty; the credits, from what the
   devices owe; and the opening of a device's own cells at the region's entry. -/
module

public import proofs.«01_k».proof.Proof.KernelIdeal.Region

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

/-! ## Families over the kernel's own semaphores -/

theorem fin_range {M : Type} [URA M] (n : ℕ) (Φ : ℕ → sProp M) : bigSep (Finset.univ : Finset (Fin n)) (fun i => Φ i.val) = bigSep (Finset.range n) Φ := by
  rw [← Nat.Iio_eq_range, ← Fin.map_valEmbedding_univ, bigSep_map]; rfl

theorem ks_eq (Φ : SemLoc sig → sProp 𝕄) :
    bigSep (Finset.univ : Finset KS) (fun k => Φ (osem k))
      = iprop((bigSep (Finset.range 15) fun h => Φ (.dma (sD h))) ∗ (bigSep (Finset.range 15) fun h => Φ (.dma (rD h)))
          ∗ bigSep (Finset.range 14) fun f => Φ (.reg (fS f))) := by
  rw [bigSep_univ_sum, bigSep_univ_sum, ← fin_range 15 fun h => Φ (.dma (sD h)), ← fin_range 15 fun h => Φ (.dma (rD h)),
    ← fin_range 14 fun f => Φ (.reg (fS f))]
  rfl

/-! ## Opening the own cells -/

variable (KV : Dev nD → S2x64x256x64.Idx → Elt F .bf16)

theorem ins_eq {k : KS} {S : Finset KS} (hk : k ∉ S) (Φ : KS → sProp 𝕄) : bigSep (insert k S) Φ = iprop(Φ k ∗ bigSep S Φ) := bigSep_insert hk

theorem open_all (κ : GSem nD τ sig → ℕ) (c : Dev nD) (S : Finset KS) :
    (iprop(records KV κ ∗ (bigSep S fun k => openTok ER ((c : Thread nD τ), osem k)) ∗ (bigSep S fun k => semVal ((c : Thread nD τ), osem k) 0)) : sProp 𝕄)
      ⊢ |={Set.univ}=> bigSep S fun k => iprop(atPos ER ((c : Thread nD τ), osem k) 0 ∅ 0 ∗ reached ER ((c : Thread nD τ), osem k) 0) := by
  induction S using Finset.induction_on with
  | empty =>
    rw [bigSep_empty, bigSep_empty, bigSep_empty]
    iintro ⟨-, H, -⟩; imodintro; iexact H
  | insert k S hk ih =>
    rw [ins_eq hk, ins_eq hk, ins_eq hk]
    iintro ⟨#HR, ⟨Ho, HoS⟩, ⟨Hv, HvS⟩⟩
    imod (Rounds.cell_open ER (Rd KV) (g := ((c : Thread nD τ), osem k)) (Set.mem_univ (κ ((c : Thread nD τ), osem k)))) $$ [Ho Hv] with ⟨Ha, #Hr⟩
    · isplitr; · iapply (inv_at KV κ (own_mem c k)); iexact HR
      isplitl [Ho] <;> iassumption
    imod ih $$ [HoS HvS] with HS
    · isplitr; · iexact HR
      isplitl [HoS] <;> iassumption
    imodintro
    isplitl [Ha]
    · isplitl [Ha]; · iexact Ha
      iexact Hr
    iexact HS

/-! ## Tokens -/

/-- A duty of the mesh: one of the two at a device's barrier, or the one at one of its own cells. -/
abbrev TI : Type := Bool ⊕ KS
def tokOf (c : Dev nD) : TI → GSem nD τ sig × ℕ × Bool
  | .inl b => (barC c, 0, b)
  | .inr k => (((c : Thread nD τ), osem k), 0, false)

theorem tok_inj : Function.Injective fun i : TI => ((tokOf (0 : Dev nD) i).1.2, (tokOf (0 : Dev nD) i).2.2) := by
  rintro (b | k) (b' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))

theorem tokOf_dev (c : Dev nD) (i : TI) : (tokOf c i).1.1.1 = c := by cases i <;> rfl
theorem tokOf_key (c : Dev nD) (i : TI) : ((tokOf c i).1.2, (tokOf c i).2.2) = ((tokOf (0 : Dev nD) i).1.2, (tokOf (0 : Dev nD) i).2.2) := by cases i <;> rfl

def tokEmb : Dev nD × TI ↪ GSem nD τ sig × ℕ × Bool := ⟨fun p => tokOf p.1 p.2, fun p p' h => by
  have hd : p.1 = p'.1 := by
    rw [← tokOf_dev p.1 p.2, ← tokOf_dev p'.1 p'.2]; exact congrArg (fun t : GSem nD τ sig × ℕ × Bool => t.1.1.1) h
  refine Prod.ext hd (tok_inj ?_)
  show ((tokOf (0 : Dev nD) p.2).1.2, (tokOf (0 : Dev nD) p.2).2.2) = ((tokOf (0 : Dev nD) p'.2).1.2, (tokOf (0 : Dev nD) p'.2).2.2)
  rw [← tokOf_key p.1 p.2, ← tokOf_key p'.1 p'.2]
  exact congrArg (fun t : GSem nD τ sig × ℕ × Bool => (t.1.2, t.2.2)) h⟩

def ringToks : Finset (GSem nD τ sig × ℕ × Bool) := Finset.univ.map tokEmb

/-- The tokens of a device's own cells. -/
def toksOf (c : Dev nD) : sProp 𝕄 :=
  iprop((dutyTok ER (barC c) 0 true ∗ dutyTok ER (barC c) 0 false) ∗ (bigSep (Finset.range 15) fun h => dutyTok ER (sendC c h) 0 false)
    ∗ (bigSep (Finset.range 15) fun h => dutyTok ER (recvC c h) 0 false) ∗ bigSep (Finset.range 14) fun f => dutyTok ER (freeC c f) 0 false)

/-- The tokens of the duties a device pays. -/
def paysOf (c : Dev nD) : sProp 𝕄 :=
  iprop((dutyTok ER (barC (prv c)) 0 true ∗ dutyTok ER (barC (nxt c)) 0 false) ∗ (bigSep (Finset.range 15) fun h => dutyTok ER (sendC c h) 0 false)
    ∗ (bigSep (Finset.range 15) fun h => dutyTok ER (recvC (nxt c) h) 0 false) ∗ bigSep (Finset.range 14) fun f => dutyTok ER (freeC (prv c) f) 0 false)

theorem bool_eq (Φ : Bool → sProp 𝕄) : bigSep Finset.univ Φ = iprop(Φ true ∗ Φ false) := by
  rw [show (Finset.univ : Finset Bool) = {true, false} from rfl, bigSep_insert (by decide), bigSep_singleton]; rfl

theorem toks_eq : bigSep ringToks (fun x => (dutyTok ER x.1 x.2.1 x.2.2 : sProp 𝕄)) = bigSep Finset.univ fun c : Dev nD => toksOf c := by
  unfold ringToks; rw [bigSep_map, bigSep_univ_prod]
  refine bigSep_congr fun c _ => ?_
  unfold toksOf
  rw [bigSep_univ_sum, bool_eq, ← ks_eq fun sm => (dutyTok ER ((c : Thread nD τ), sm) 0 false : sProp 𝕄)]
  rfl

theorem toks_around : (bigSep Finset.univ fun c : Dev nD => (toksOf c : sProp 𝕄)) ⊢ bigSep Finset.univ fun c : Dev nD => (paysOf c : sProp 𝕄) := by
  unfold toksOf paysOf
  rw [bigSep_sep', bigSep_sep', bigSep_sep', bigSep_sep', bigSep_sep', bigSep_sep', bigSep_sep', bigSep_sep',
    bigSep_univ_equiv ringL (fun c : Dev nD => (dutyTok ER (barC c) 0 true : sProp 𝕄)),
    bigSep_univ_equiv ringR (fun c : Dev nD => (dutyTok ER (barC c) 0 false : sProp 𝕄)),
    bigSep_univ_equiv ringR (fun c : Dev nD => (bigSep (Finset.range 15) fun h => dutyTok ER (recvC c h) 0 false : sProp 𝕄)),
    bigSep_univ_equiv ringL (fun c : Dev nD => (bigSep (Finset.range 14) fun f => dutyTok ER (freeC c f) 0 false : sProp 𝕄))]
  exact BI.Entails.refl _

/-! ## The launch credit -/

theorem nxt_iff (d c : Dev nD) : c = nxt d ↔ d = prv c := ⟨fun h => by rw [h, prv_nxt], fun h => by rw [h, nxt_prv]⟩
theorem prv_iff (d c : Dev nD) : c = prv d ↔ d = nxt c := ⟨fun h => by rw [h, nxt_prv], fun h => by rw [h, prv_nxt]⟩

theorem tally_at (c c' : Dev nD) (s s' : SemLoc sig) (n : ℕ) :
    tallyAt ((c' : Thread nD τ), s') () n ((c : Thread nD τ), s) () = if c = c' ∧ s = s' then n else 0 := by
  rw [tallyAt_apply]
  refine if_congr ⟨fun h => ⟨congrArg (fun g : GSem nD τ sig => g.1.1) h.1, congrArg Prod.snd h.1⟩, fun h => ⟨?_, rfl⟩⟩ rfl rfl
  rw [h.1, h.2]

theorem rD_iff {h h' : ℕ} (hh : h < 15) (hh' : h' < 15) : (SemLoc.dma (rD h) : SemLoc sig) = .dma (rD h') ↔ h = h' := by
  constructor
  · intro e
    have : (rD h).val = (rD h').val := congrArg (fun s : SemLoc sig => match s with | .dma d => d.val | .reg r => r.val) e
    have a : (19 + h) % 34 = (19 + h') % 34 := this
    omega
  · rintro rfl; rfl
theorem fS_iff {f f' : ℕ} (hf : f < 14) (hf' : f' < 14) : (SemLoc.reg (fS f) : SemLoc sig) = .reg (fS f') ↔ f = f' := by
  constructor
  · intro e
    have : (fS f).val = (fS f').val := congrArg (fun s : SemLoc sig => match s with | .dma d => d.val | .reg r => r.val) e
    have a : f % 15 = f' % 15 := this
    omega
  · rintro rfl; rfl
theorem dma_ne_reg (a : DmaSem sig) (b : Sem sig) : (SemLoc.dma a : SemLoc sig) ≠ .reg b := fun h => nomatch h
theorem fS_ne_bS {f : ℕ} (hf : f < 14) : (SemLoc.reg (fS f) : SemLoc sig) ≠ .reg bS := by
  intro e
  have : (fS f).val = bS.val := congrArg (fun s : SemLoc sig => match s with | .dma d => d.val | .reg r => r.val) e
  have a : f % 15 = 14 := this
  omega

theorem tally_ne (c c' : Dev nD) {s s' : SemLoc sig} (n : ℕ) (h : s ≠ s') :
    tallyAt ((c' : Thread nD τ), s') () n ((c : Thread nD τ), s) () = 0 := by
  rw [tally_at, if_neg fun e => h e.2]
theorem tally_recv (d c : Dev nD) {h h' : ℕ} (hh : h < 15) (hh' : h' < 15) (n : ℕ) :
    tallyAt (recvC (nxt d) h') () n (recvC c h) () = if d = prv c ∧ h = h' then n else 0 :=
  (tally_at _ _ _ _ _).trans (if_congr (and_congr (nxt_iff d c) (rD_iff hh hh')) rfl rfl)
theorem tally_free (d c : Dev nD) {f f' : ℕ} (hf : f < 14) (hf' : f' < 14) (n : ℕ) :
    tallyAt (freeC (prv d) f') () n (freeC c f) () = if d = nxt c ∧ f = f' then n else 0 :=
  (tally_at _ _ _ _ _).trans (if_congr (and_congr (prv_iff d c) (fS_iff hf hf')) rfl rfl)
theorem tally_barR (d c : Dev nD) (n : ℕ) : tallyAt (barC (nxt d)) () n (barC c) () = if d = prv c then n else 0 :=
  (tally_at _ _ _ _ _).trans (if_congr ((and_iff_left rfl).trans (nxt_iff d c)) rfl rfl)
theorem tally_barL (d c : Dev nD) (n : ℕ) : tallyAt (barC (prv d)) () n (barC c) () = if d = nxt c then n else 0 :=
  (tally_at _ _ _ _ _).trans (if_congr ((and_iff_left rfl).trans (prv_iff d c)) rfl rfl)

theorem from_bar (d c : Dev nD) : ∀ k f, f + k = 14 → oweFrom d f k (barC c) () = 0
  | 0, f, _ => rfl
  | k + 1, f, hk => by
    unfold oweFrom
    rw [Pi.add_apply, Finsupp.add_apply, Pi.add_apply, Finsupp.add_apply, from_bar d c k (f + 1) (by omega),
      tally_ne c (nxt d) N (dma_ne_reg _ _).symm, tally_ne c (prv d) 1 (fS_ne_bS (by omega)).symm]

theorem from_recv (d c : Dev nD) {h : ℕ} (hh : h < 15) : ∀ k f, f + k = 14 →
    oweFrom d f k (recvC c h) () = if d = prv c ∧ f < h then N else 0
  | 0, f, hk => by
    rw [if_neg (fun hf => by omega)]; rfl
  | k + 1, f, hk => by
    unfold oweFrom
    rw [Pi.add_apply, Finsupp.add_apply, Pi.add_apply, Finsupp.add_apply, from_recv d c hh k (f + 1) (by omega),
      tally_recv d c hh (by omega), tally_ne c (prv d) 1 (dma_ne_reg _ _)]
    by_cases hd : d = prv c
    · rcases Nat.lt_trichotomy h (f + 1) with h1 | h1 | h1
      · rw [if_neg (fun h => by omega), if_neg (fun h => by omega), if_neg (fun h => by omega)]
      · rw [if_neg (fun h => by omega), if_pos ⟨hd, h1⟩, if_pos ⟨hd, by omega⟩, Nat.zero_add, Nat.add_zero]
      · rw [if_pos ⟨hd, h1⟩, if_neg (fun h => by omega), if_pos ⟨hd, by omega⟩]; rfl
    · rw [if_neg (fun h => hd h.1), if_neg (fun h => hd h.1), if_neg (fun h => hd h.1)]

theorem from_free (d c : Dev nD) {e : ℕ} (he : e < 14) : ∀ k f, f + k = 14 →
    oweFrom d f k (freeC c e) () = if d = nxt c ∧ f ≤ e then 1 else 0
  | 0, f, hk => by
    rw [if_neg (fun hf => by omega)]; rfl
  | k + 1, f, hk => by
    unfold oweFrom
    rw [Pi.add_apply, Finsupp.add_apply, Pi.add_apply, Finsupp.add_apply, from_free d c he k (f + 1) (by omega),
      tally_ne c (nxt d) N (dma_ne_reg _ _).symm, tally_free d c he (by omega)]
    by_cases hd : d = nxt c
    · rcases Nat.lt_trichotomy e f with h1 | h1 | h1
      · rw [if_neg (fun h => by omega), if_neg (fun h => by omega), if_neg (fun h => by omega)]
      · rw [if_neg (fun h => by omega), if_pos ⟨hd, h1⟩, if_pos ⟨hd, by omega⟩]
      · rw [if_pos ⟨hd, h1⟩, if_neg (fun h => by omega), if_pos ⟨hd, by omega⟩]
    · rw [if_neg (fun h => hd h.1), if_neg (fun h => hd h.1), if_neg (fun h => hd h.1)]

theorem owed_bar (d c : Dev nD) : O₀ d (barC c) () = (if d = prv c then 1 else 0) + if d = nxt c then 1 else 0 := by
  unfold O₀ oweHops
  rw [Pi.add_apply, Finsupp.add_apply, Pi.add_apply, Finsupp.add_apply, Pi.add_apply, Finsupp.add_apply, from_bar d c 14 0 rfl,
    tally_ne c (nxt d) N (dma_ne_reg _ _).symm, tally_barR, tally_barL]
  exact congrArg (· + _) (Nat.zero_add _)

theorem owed_recv (d c : Dev nD) {h : ℕ} (hh : h < 15) : O₀ d (recvC c h) () = if d = prv c then N else 0 := by
  unfold O₀ oweHops
  rw [Pi.add_apply, Finsupp.add_apply, Pi.add_apply, Finsupp.add_apply, Pi.add_apply, Finsupp.add_apply, from_recv d c hh 14 0 rfl,
    tally_recv d c hh (by omega), tally_ne c (nxt d) 1 (dma_ne_reg _ _), tally_ne c (prv d) 1 (dma_ne_reg _ _)]
  by_cases hd : d = prv c
  · by_cases h0 : h = 0
    · rw [if_neg (fun h => by omega), if_pos ⟨hd, h0⟩, if_pos hd, Nat.zero_add]; rfl
    · rw [if_pos ⟨hd, by omega⟩, if_neg (fun h => h0 h.2), if_pos hd]; rfl
  · rw [if_neg (fun h => hd h.1), if_neg (fun h => hd h.1), if_neg hd]

theorem owed_free (d c : Dev nD) {e : ℕ} (he : e < 14) : O₀ d (freeC c e) () = if d = nxt c then 1 else 0 := by
  unfold O₀ oweHops
  rw [Pi.add_apply, Finsupp.add_apply, Pi.add_apply, Finsupp.add_apply, Pi.add_apply, Finsupp.add_apply, from_free d c he 14 0 rfl,
    tally_ne c (nxt d) N (dma_ne_reg _ _).symm, tally_ne c (nxt d) 1 (fS_ne_bS he), tally_ne c (prv d) 1 (fS_ne_bS he)]
  exact if_congr ⟨fun h => h.1, fun h => ⟨h, Nat.zero_le _⟩⟩ rfl rfl

theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barC c) (launchCredit (Pipeline.owing O₀) 0 (barC c)) = (tallyAt (barC c) () 2 : CellTallies nD τ sig Unit) :=
  launch_cell _ _ (by
    rw [Finset.sum_congr rfl fun d _ => owed_bar d c, Finset.sum_add_distrib, Finset.sum_ite_eq' Finset.univ (prv c) fun _ => 1,
      Finset.sum_ite_eq' Finset.univ (nxt c) fun _ => 1, if_pos (Finset.mem_univ _), if_pos (Finset.mem_univ _)])
theorem launch_recv (c : Dev nD) {h : ℕ} (hh : h < 15) :
    tallyOn (recvC c h) (launchCredit (Pipeline.owing O₀) 0 (recvC c h)) = (tallyAt (recvC c h) () N : CellTallies nD τ sig Unit) :=
  launch_cell _ _ (by
    rw [Finset.sum_congr rfl fun d _ => owed_recv d c hh, Finset.sum_ite_eq' Finset.univ (prv c) fun _ => N, if_pos (Finset.mem_univ _)])
theorem launch_free (c : Dev nD) {f : ℕ} (hf : f < 14) :
    tallyOn (freeC c f) (launchCredit (Pipeline.owing O₀) 0 (freeC c f)) = (tallyAt (freeC c f) () 1 : CellTallies nD τ sig Unit) :=
  launch_cell _ _ (by
    rw [Finset.sum_congr rfl fun d _ => owed_free d c hf, Finset.sum_ite_eq' Finset.univ (nxt c) fun _ => 1, if_pos (Finset.mem_univ _)])

/-- The credits a device waits with. -/
def credsOf (c : Dev nD) : sProp 𝕄 :=
  iprop(cred (tallyAt (barC c) () 2) ∗ (bigSep (Finset.range 15) fun h => cred (tallyAt (recvC c h) () N))
    ∗ bigSep (Finset.range 14) fun f => cred (tallyAt (freeC c f) () 1))

theorem creds_deal (c : Dev nD) : (Pipeline.launchCred O₀ c : sProp 𝕄) ⊢ credsOf c := by
  unfold Pipeline.launchCred credsOf
  rw [bigSep_univ_at _ (SemLoc.reg bS), launch_bar]
  refine sep_mono_right ?_
  have hsub : (Finset.univ.map ⟨osem, osem_inj⟩ : Finset (SemLoc sig)) ⊆ Finset.univ.erase (SemLoc.reg bS) := fun s hs => by
    obtain ⟨k, -, rfl⟩ := Finset.mem_map.mp hs
    exact Finset.mem_erase.mpr ⟨osem_ne_bar k, Finset.mem_univ _⟩
  refine (bigSep_subset hsub).trans ?_
  rw [bigSep_map]
  refine (Entails.of_eq (ks_eq fun sm => (cred (tallyOn ((c : Thread nD τ), sm) (launchCredit (Pipeline.owing O₀) 0 ((c : Thread nD τ), sm))) : sProp 𝕄))).trans ?_
  rw [bigSep_congr (s := Finset.range 15) (Φ := fun h => (cred (tallyOn (recvC c h) (launchCredit (Pipeline.owing O₀) 0 (recvC c h))) : sProp 𝕄))
      (Ψ := fun h => cred (tallyAt (recvC c h) () N)) fun h hh => by rw [launch_recv c (Finset.mem_range.mp hh)],
    bigSep_congr (s := Finset.range 14) (Φ := fun f => (cred (tallyOn (freeC c f) (launchCredit (Pipeline.owing O₀) 0 (freeC c f))) : sProp 𝕄))
      (Ψ := fun f => cred (tallyAt (freeC c f) () 1)) fun f hf => by rw [launch_free c (Finset.mem_range.mp hf)]]
  iintro ⟨-, H⟩; iexact H

end Cert.KernelIdeal.Ring

end
-- ==== Proof.KernelIdeal.Run.lean ====
/- The run of @main: its host operations, the talking region, and the launch of all sixteen devices. -/
module

public import proofs.«01_k».proof.Proof.KernelIdeal.Deal

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal Cert.KernelIdeal.Gen

variable {F : FTy → Type} [FloatOps F]
variable (m : (ℓ : Loc nD τ sig) → Buf (Elt F) ℓ)

local notation "𝕄" => MT nD τ sig Unit (Elt F) ℕ UU ℕ
local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The region -/

/-- What stays with device c from the launch: its barrier position, its rights to open, the tokens of the duties it pays. -/
def linear (c : Dev nD) : sProp 𝕄 :=
  iprop(atPos ER (barC c) 0 ∅ 0 ∗ (bigSep Finset.univ fun k : KS => openTok ER ((c : Thread nD τ), osem k)) ∗ paysOf c)

def Tk (c : Dev nD) : sProp 𝕄 := iprop((∃ κ, records (KVm m) κ ∗ linear c) ∗ credsOf c)
def Xk (c : Dev nD) : sProp 𝕄 := iprop(∃ κ, bodyPre (KVm m) c κ)
def Yk (c : Dev nD) : sProp 𝕄 := semVal (barC c) 0

theorem opened_eq (c : Dev nD) : bigSep (Finset.univ : Finset KS) (fun k => (iprop(atPos ER ((c : Thread nD τ), osem k) 0 ∅ 0 ∗ reached ER ((c : Thread nD τ), osem k) 0) : sProp 𝕄))
    = iprop(((bigSep (Finset.range 15) fun h => atPos ER (sendC c h) 0 ∅ 0) ∗ bigSep (Finset.range 15) fun h => reached ER (sendC c h) 0)
      ∗ ((bigSep (Finset.range 15) fun h => atPos ER (recvC c h) 0 ∅ 0) ∗ bigSep (Finset.range 15) fun h => reached ER (recvC c h) 0)
      ∗ ((bigSep (Finset.range 14) fun f => atPos ER (freeC c f) 0 ∅ 0) ∗ bigSep (Finset.range 14) fun f => reached ER (freeC c f) 0)) := by
  rw [ks_eq fun sm => (iprop(atPos ER ((c : Thread nD τ), sm) 0 ∅ 0 ∗ reached ER ((c : Thread nD τ), sm) 0) : sProp 𝕄), bigSep_sep', bigSep_sep', bigSep_sep']

theorem pair_in {ι : Type} [DecidableEq ι] {S : Finset ι} {Φ Ψ : ι → sProp 𝕄} : iprop(bigSep S Φ ∗ bigSep S Ψ) ⊢ bigSep S fun i => iprop(Φ i ∗ Ψ i) :=
  Entails.of_eq (bigSep_sep' S Φ Ψ).symm
theorem pair_out {ι : Type} [DecidableEq ι] {S : Finset ι} {Φ Ψ : ι → sProp 𝕄} : (bigSep S fun i => iprop(Φ i ∗ Ψ i)) ⊢ iprop(bigSep S Φ ∗ bigSep S Ψ) :=
  Entails.of_eq (bigSep_sep' S Φ Ψ)

theorem hopen (c : Dev nD) : iprop(Tk m c ∗ Pipeline.ownSems0 osem c ∗ levAts L lv) ⊢ (|={Set.univ}=> Xk m c : sProp 𝕄) := by
  unfold Tk Xk linear credsOf paysOf Pipeline.ownSems0
  iintro ⟨⟨⟨%κ, #HR, HaB, Ho, ⟨HtT, HtF⟩, HtS, HtV, HtFr⟩, HcB, HcV, HcF⟩, Hv, #Hlev⟩
  imod (open_all (KVm m) κ c Finset.univ) $$ [Ho Hv] with H
  · isplitr; · iexact HR
    isplitl [Ho] <;> iassumption
  ihave H' := (Entails.of_eq (opened_eq (F := F) c)) $$ H
  icases H' with ⟨⟨HaS, #HrS⟩, ⟨HaV, #HrV⟩, HaF, #HrF⟩
  imodintro
  iexists κ
  unfold bodyPre levs barL
  isplitr; · iexact HR
  isplitr; · iexact Hlev
  isplitl [HaB]; · iexact HaB
  isplitl [HcB]; · iexact HcB
  isplitl [HtT]; · iexact HtT
  isplitl [HtF]; · iexact HtF
  isplitr; · iexact HrV
  isplitr; · iexact HrF
  isplitl [HaS HaV HtS HtV HcV]
  · unfold sendRes
    iapply pair_in; isplitl [HaS]; · iexact HaS
    iapply pair_in; isplitr; · iexact HrS
    iapply pair_in; isplitl [HaV]; · iexact HaV
    iapply pair_in; isplitl [HtS]; · iexact HtS
    iapply pair_in; isplitl [HtV] <;> iassumption
  · unfold freeRes
    iapply pair_in; isplitl [HaF]; · iexact HaF
    iapply pair_in; isplitl [HtFr] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨h1, h2⟩ := O₀_pos' c g i h
    exact ⟨by unfold L; rw [if_pos h1]; exact Finset.mem_singleton_self _, h2⟩
  · exact absurd h (Nat.lt_irrefl 0)

theorem held_none (c : Dev nD) (W : Valuation τ sig (Elt F)) : (StableHlo.held (c.tc : Thread nD τ) ∅ W : sProp 𝕄) = BI.emp := by
  unfold StableHlo.held; exact bigSep_empty

/-- The buffers when the region is done: the call's result holds what the body stored, the others what they held. -/
abbrev V₂ (c : Dev nD) : Valuation τ sig (Elt F) := Pipeline.withArrays spec0 c (V₁ m c) fun w => (datR m c).arrAt w cfg0.N
abbrev V₃ (c : Dev nD) : Valuation τ sig (Elt F) := StableHlo.after hostOps1 (V₂ m c)

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [Φ_zero]
  unfold Xk ΦIn
  iintro ⟨Hs, Hp, -, HK⟩
  isplitl [HK]; · iexact HK
  isplitl [Hs]; · iapply (scratch_in (F := F) c) $$ Hs
  iexact Hp

theorem own_done (c : Dev nD) : (iprop((bigSep (Finset.range 15) fun h => sendDone c h) ∗ bigSep (Finset.range 14) fun f => freeDone c f) : sProp 𝕄)
    ⊢ Pipeline.ownSems0 osem c := by
  unfold Pipeline.ownSems0 sendDone freeDone
  rw [ks_eq fun sm => (semVal ((c : Thread nD τ), sm) 0 : sProp 𝕄), bigSep_sep']
  iintro ⟨⟨Hs, Hv⟩, Hf⟩
  isplitl [Hs]; · iexact Hs
  isplitl [Hv] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [Φ_last, held_none]
  unfold Yk ΦOut bodyPost
  iintro ⟨⟨Hb, Hs, Hf⟩, Hsc, Hp⟩
  isplitl [Hsc]; · iapply (scratch_out (F := F) c) $$ Hsc
  isplitl [Hp]; · iexact Hp
  isplitr; · iempintro
  isplitl [Hs Hf]
  · iapply (own_done (F := F) c); isplitl [Hs] <;> iassumption
  iexact Hb

abbrev Uc : Finset (DevRef τ sig) := Pipeline.ucRefs τ sig
theorem arr_sub : Pipeline.arrRefs (τ := τ) spec0 ⊆ Uc := Pipeline.arrRefs_sub_ucRefs spec0 (by decide)

theorem rest_same (c : Dev nD) (b : DevRef τ sig) (hb : b ∈ (Uc \ Pipeline.arrRefs (τ := τ) spec0) \ ∅) : V₂ m c b = V₁ m c b := by
  have h := (Finset.mem_sdiff.mp (Finset.mem_sdiff.mp hb).1)
  obtain ⟨r, -, rfl⟩ := Finset.mem_map.mp (Finset.mem_filter.mp h.1).1
  exact Pipeline.withArrays_of_ne spec0 c (V₁ m c) _ r fun w e => h.2 (by
    rw [← e]; exact Finset.mem_map_of_mem _ (Finset.mem_image_of_mem _ (Finset.mem_univ w)))

/-- The staging semaphores sit at the bottom. -/
theorem stage_low : ∀ (w : Fin 4) (s : Fin (spec0 w).nbuf), lvS (.dma ((spec0 w).sem s)) ≤ 0 := by decide

theorem arr_inj : Function.Injective (Pipeline.arrRef spec0) := by decide

theorem share_full (c : Dev nD) (w : Fin 4) : (datR m c).share w = fullShare := ite_self (c := ((cfg0.win w).isOut = true)) fullShare

theorem V₂_arr (c : Dev nD) (w : Fin 4) : (datR m c).arrAt w cfg0.N = V₂ m c (Proc.devRef .tc (Pipeline.arrRef spec0 w)) :=
  (Pipeline.withArrays_arr spec0 arr_inj c (V₁ m c) (fun w => (datR m c).arrAt w cfg0.N) w).symm

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ (Uc \ Pipeline.arrRefs (τ := τ) spec0) (Finset.empty_subset _) kitP rfl (fun c => (body_obl m c).loose)
    (fun _ => 0) O₀ (fun c => (owed_zero m c).trans (zero_add _).symm) (owed_last m) (fun _ => rfl) (fun c w => share_full m c w)
    (V₁ m) (V₂ m) (rest_same m)
    (Tk m) Yk (Xk m) Yk (hopen m) (hin m) (hout m)
    (fun c => by iintro H; imodintro; iexact H)
    (fun _ => 0)
    ⟨fun c w s => by rw [L_tc]; exact Finset.mem_singleton_self _, fun c w s => stage_low w s, fun c t g i h => cutD m c t g i h⟩
    (fun _ => iprop(emp))
    (fun _ _ => rfl) (V₂_arr m)

/-! ## The segments -/

/-- What rides beside the buffers up to the region. -/
def R (c : Dev nD) : sProp 𝕄 := iprop(Tk m c ∗ (∃ r, prngReg c r) ∗ ∃ W, owes (c : Thread nD τ) (O₀ c) W)
def R' (c : Dev nD) : sProp 𝕄 := iprop(semVal (barC c) 0 ∗ ∃ W, owes (c : Thread nD τ) (0 : CellTallies nD τ sig Unit) W)

theorem ops0_sub : ∀ op ∈ (hostOps0 : List (HloOp τ sig (Elt F))), op.bufs ⊆ Uc := fun op h =>
  Pipeline.sub_ucRefs op (List.forall_iff_forall_mem.mp hostOps0_sub op h)
theorem ops1_sub : ∀ op ∈ (hostOps1 : List (HloOp τ sig (Elt F))), op.bufs ⊆ Uc := fun op h =>
  Pipeline.sub_ucRefs op (List.forall_iff_forall_mem.mp hostOps1_sub op h)

def seg0 : ℍ := Pipeline.HostSeg.ofOps _ _ _ _ _ Uc hostOps0 ops0_sub (List.forall_iff_forall_mem.mp hostOps0_fresh) (Vl m) (R m)
def seg1 : ℍ := Pipeline.HostSeg.ofOps _ _ _ _ _ Uc hostOps1 ops1_sub (List.forall_iff_forall_mem.mp hostOps1_fresh) (V₂ m) R'

theorem reg0_pre (c : Dev nD) : iprop(StableHlo.held (c : Thread nD τ) Uc (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) (Uc \ Pipeline.arrRefs (τ := τ) spec0) (V₁ m c) ∗ emp) ∗ Tk m c ∗ ∃ Wd, owes (c : Thread nD τ) (0 + O₀ c) Wd)
  rw [StableHlo.held_sub_split (c : Thread nD τ) arr_sub (V₁ m c), zero_add]
  unfold R
  iintro ⟨⟨Ha, Hh⟩, HK, Hp, HO⟩
  isplitl [Ha]; · iexact Ha
  isplitl [Hp]; · iexact Hp
  isplitl [Hh]
  · isplitl [Hh]; · iexact Hh
    iempintro
  isplitl [HK]; · iexact HK
  iexact HO

theorem reg0_post (c : Dev nD) : (reg0 m).post c ⊢ iprop(StableHlo.held (c : Thread nD τ) Uc (V₂ m c) ∗ R' c) := by
  show iprop(StableHlo.held (c.tc : Thread nD τ) (Pipeline.arrRefs (τ := τ) spec0) (V₂ m c) ∗ (∃ r, prngReg c r)
    ∗ (StableHlo.held (c.tc : Thread nD τ) (Uc \ Pipeline.arrRefs (τ := τ) spec0) (V₂ m c) ∗ emp) ∗ Yk c ∗ ∃ Wd, owes (c : Thread nD τ) (0 : CellTallies nD τ sig Unit) Wd) ⊢ _
  rw [StableHlo.held_sub_split (c : Thread nD τ) arr_sub (V₂ m c)]
  unfold R' Yk
  iintro ⟨Ha, -, ⟨Hh, -⟩, Hb, HO⟩
  isplitl [Ha Hh]; · isplitl [Ha] <;> iassumption
  isplitl [Hb] <;> iassumption

def segs : List (Pipeline.Seg (pcfgs (F := F)) adm (pdats m) () defs₀ 𝒱₀ L lv) :=
  [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def u₀ : UU :=
  (initOf (Pipeline.cells (Pipeline.pin (pcfgs (F := F)) adm) cellOf_inj) (Pipeline.launchToks (Pipeline.pin (pcfgs (F := F)) adm) cellOf_inj),
    launchOf barCells scCells ringToks)

/-- A resource as a per-device family: all of it on device 0. -/
def on0 (X : sProp 𝕄) (c : Dev nD) : sProp 𝕄 := if c = 0 then X else iprop(emp)
theorem bigSep_on0 (X : sProp 𝕄) : bigSep Finset.univ (on0 X) = X := by
  rw [bigSep_univ_at _ (0 : Dev nD), bigSep_congr (s := Finset.univ.erase (0 : Dev nD)) (Ψ := fun _ => (BI.emp : sProp 𝕄))
      fun c hc => by unfold on0; rw [if_neg (Finset.ne_of_mem_erase hc)]; rfl, BI.bigSep_emp_const]
  unfold on0; rw [if_pos rfl]
  exact BI.equiv_iff.mp sep_emp

def G : Dev nD → sProp 𝕄 := on0 (BI.own (ER (launchOf barCells scCells ringToks)))

theorem bar_zero (c : Dev nD) : (unscopedSems0 c : sProp 𝕄) = semVal (barC c) 0 := by
  unfold unscopedSems0
  rw [show (Finset.univ.filter fun sm : SemLoc sig => ¬ sm.isScoped .tc) = {SemLoc.reg bS} from by decide, BI.bigSep_singleton]

abbrev T₀ (c : Dev nD) : sProp 𝕄 := iprop(StableHlo.held (c : Thread nD τ) Uc (Vl m c) ∗ R m c)
abbrev Tₙ (c : Dev nD) : sProp 𝕄 := iprop(StableHlo.held (c : Thread nD τ) Uc (V₃ m c) ∗ semVal (barC c) 0)

/-- What of a core's launch holdings is not the protocol's ghost state. -/
def bundle (c : Dev nD) : sProp 𝕄 :=
  iprop(StableHlo.held (c : Thread nD τ) Uc (Vl m c) ∗ credsOf c ∗ owes (c : Thread nD τ) (O₀ c) ∅ ∗ ∃ r, prngReg c r)

theorem T₀_intro (κ : GSem nD τ sig → ℕ) (c : Dev nD) : iprop(records (KVm m) κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

variable (ρ : Dev nD → PrngReg)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) Uc (Vl m c) from Pipeline.unscopedBufs_held c (Vl m c),
      bar_zero]
    unfold bundle
    iintro ⟨Hh, Hus, HO, Hcr, Hp, HG⟩
    ihave Hc := (creds_deal (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : KS => openTok ER ((c : Thread nD τ), osem k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := pair_out $$ H'; icases H2 with ⟨HB, H3⟩
  ihave H4 := pair_out $$ H3; icases H4 with ⟨Hv, HG⟩
  ihave Hu := (show bigSep Finset.univ (G (F := F)) ⊢ BI.own (ER (launchOf barCells scCells ringToks)) from
    Entails.of_eq (bigSep_on0 (F := F) (BI.own (ER (launchOf barCells scCells ringToks))))) $$ HG
  imod (Rounds.fund_launch ER (Rd (KVm m)) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records (KVm m) κ) (Φ := fun c => iprop(linear c ∗ bundle m c)) fun c _ => T₀_intro m κ c)
  isplitr
  · unfold records
    isplitr; · iexact Hinv
    iexact Hr
  iapply pair_in
  isplitr [HB]
  · unfold linear
    iapply pair_in; isplitl [Hat]; · iapply hat $$ Hat
    iapply pair_in; isplitl [Hopen]; · iapply hop $$ Hopen
    iapply (toks_around (F := F))
    iapply (Entails.of_eq (toks_eq (F := F))) $$ Htok
  · iexact HB

/-! ## What the run leaves -/

theorem V₃_main_arg0 (c : Dev nD) : V₃ m c (Proc.devRef .tc main_arg0) = m ((c : Thread nD τ).loc main_arg0) := by
  unfold V₃
  rw [StableHlo.after_of_forall_not_mem (b := Proc.devRef .tc main_arg0) _ _ (List.forall_iff_forall_mem.mp (by
      simp only [hostOps1, List.Forall, StableHlo.unary_writes, StableHlo.reshape_writes, Finset.mem_singleton]
      repeat' apply And.intro
      all_goals exact StableHlo.devRef_ne_of_ne (by decide)))]
  exact (Pipeline.withArrays_of_ne spec0 c (V₁ m c) _ main_arg0 (by exact (by decide : ∀ w, Pipeline.arrRef spec0 w ≠ main_arg0))).trans (V_main_arg0 m c)
theorem V₃_main_arg1 (c : Dev nD) : V₃ m c (Proc.devRef .tc main_arg1) = m ((c : Thread nD τ).loc main_arg1) := by
  unfold V₃
  rw [StableHlo.after_of_forall_not_mem (b := Proc.devRef .tc main_arg1) _ _ (List.forall_iff_forall_mem.mp (by
      simp only [hostOps1, List.Forall, StableHlo.unary_writes, StableHlo.reshape_writes, Finset.mem_singleton]
      repeat' apply And.intro
      all_goals exact StableHlo.devRef_ne_of_ne (by decide)))]
  exact (Pipeline.withArrays_of_ne spec0 c (V₁ m c) _ main_arg1 (by exact (by decide : ∀ w, Pipeline.arrRef spec0 w ≠ main_arg1))).trans (V_main_arg1 m c)
theorem V₃_main_arg2 (c : Dev nD) : V₃ m c (Proc.devRef .tc main_arg2) = m ((c : Thread nD τ).loc main_arg2) := by
  unfold V₃
  rw [StableHlo.after_of_forall_not_mem (b := Proc.devRef .tc main_arg2) _ _ (List.forall_iff_forall_mem.mp (by
      simp only [hostOps1, List.Forall, StableHlo.unary_writes, StableHlo.reshape_writes, Finset.mem_singleton]
      repeat' apply And.intro
      all_goals exact StableHlo.devRef_ne_of_ne (by decide)))]
  exact (Pipeline.withArrays_of_ne spec0 c (V₁ m c) _ main_arg2 (by exact (by decide : ∀ w, Pipeline.arrRef spec0 w ≠ main_arg2))).trans (V_main_arg2 m c)

abbrev four : Finset (DevRef τ sig) := {Proc.devRef .tc main_arg0, Proc.devRef .tc main_arg1, Proc.devRef .tc main_arg2, Proc.devRef .tc main_v11}
theorem four_sub : four ⊆ Uc := by decide
theorem held_four (c : Dev nD) (V : Valuation τ sig (Elt F)) : (StableHlo.held (c : Thread nD τ) four V : sProp 𝕄)
    = iprop((((c : Thread nD τ).loc main_arg0) ↦{fullShare} V (Proc.devRef .tc main_arg0)) ∗ (((c : Thread nD τ).loc main_arg1) ↦{fullShare} V (Proc.devRef .tc main_arg1))
      ∗ (((c : Thread nD τ).loc main_arg2) ↦{fullShare} V (Proc.devRef .tc main_arg2)) ∗ (((c : Thread nD τ).loc main_v11) ↦{fullShare} V (Proc.devRef .tc main_v11))) := by
  unfold StableHlo.held
  rw [bigSep_eq_bigSepL_of_eq [Proc.devRef .tc main_arg0, Proc.devRef .tc main_arg1, Proc.devRef .tc main_arg2, Proc.devRef .tc main_v11] (by decide) (by decide)]
  rfl

theorem unscoped_eq : ∀ sm : SemLoc sig, sm.isScoped .tc = false → sm = .reg bS := by decide

set_option backward.isDefEq.respectTransparency.types false in
/-- The run: every weakly fair execution of @main on the sixteen devices terminates, and every final state has the arguments
    as launched, the result at what the host operations make of the stored block, and every semaphore counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v11) = V₃ m c (Proc.devRef .tc main_v11)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_on0]; iexact HX)
    (T₀ := T₀ m) (Tₙ := Tₙ m)
    (hch := by
      refine ⟨fun c => .rfl, fun c => reg0_pre m c, fun c => reg0_post m c, fun c => ?_⟩
      show iprop(StableHlo.held (c : Thread nD τ) Uc (V₃ m c) ∗ R' c)
        ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_v11) = V₃ m c (Proc.devRef .tc main_v11))
      ∧ s.sem (barC c) = 0)
    (hfin := fun c s' => by
      dsimp only [Tₙ]
      rw [StableHlo.held_sub_split (c : Thread nD τ) four_sub (V₃ m c), held_four]
      iintro ⟨⟨⟨⟨H0, H1, H2, H3⟩, -⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h0.trans (V₃_main_arg0 m c), h1.trans (V₃_main_arg1 m c), h2.trans (V₃_main_arg2 m c), h3⟩,
      sem_eq_zero hs fun c sm hsm => by
        obtain rfl := unscoped_eq sm hsm
        exact (h c).2⟩)

end Cert.KernelIdeal.Ring

end
-- ==== Proof.Value.Pay.lean ====
/- What one pass over a slot adds, at an index: weights' sums and weighted values as sums over the slot's keys. -/
module

public import proofs.«01_k».proof.Proof.KernelIdeal.Work
public import Idealize.ShloMosaic.Lib.Pointwise

@[expose] public section

noncomputable section

namespace Cert.KernelIdeal.Ring

open Idealize.ShloMosaic Idealize.ShloMosaic.TcCoe
open Cert.KernelIdeal Cert.KernelIdeal.Gen

/-- The weight of key `k` for query `q` in row `i`. -/
def wt (X K : S64x256x64.Idx → EReal) (i : Fin 64) (k q : Fin 256) : EReal :=
  Ideal.exp (∑ d : Fin 64, K (ix3 i k d) * X (ix3 i q d) - Ideal.ofBits .f32 0x41800000#32)

theorem lNew_apply (X K V : S64x256x64.Idx → Elt Ideal .bf16) (L : S64x1x256.Idx → Elt Ideal .f32) (i : Fin 64) (q : Fin 256) :
    lNew (F := Ideal) X (pairKV K V) L (ix3 i 0 q) = L (ix3 i 0 q) + ∑ k : Fin 256, wt X K i k q := by
  unfold lNew
  pointwise [k0_pay2, k0_pay1]
  simp only [lRow, aRow, kRow, qRow, pairKV, wt, ix3_eq_valueIdx, ix5_eq_valueIdx]
  rfl

theorem aNew_apply (X K V : S64x256x64.Idx → Elt Ideal .bf16) (A : S64x64x256.Idx → Elt Ideal .f32) (i d : Fin 64) (q : Fin 256) :
    aNew (F := Ideal) X (pairKV K V) A (ix3 i d q) = A (ix3 i d q) + ∑ k : Fin 256, V (ix3 i k d) * wt X K i k q := by
  unfold aNew
  pointwise [k0_pay4, k0_pay3, k0_pay1]
  simp only [lRow, aRow, kRow, qRow, pairKV, wt, ix3_eq_valueIdx, ix5_eq_valueIdx]
  rfl

end Cert.KernelIdeal.Ring

end
-- ==== Proof.Value.Weights.lean ====
/- The law the two programs meet in: weights that are exponentials of finite scores, shifted by any one real number, give
   the same weighted mean whatever the shift, whether the division comes after the sum or before it. -/
module

public import Idealize.ShloMosaic.Lib.IdealHost

@[expose] public section

noncomputable section

namespace Cert.Weights

open Idealize.ShloMosaic

theorem exp_real (r : ℝ) : Ideal.exp (r : EReal) = ((Real.exp r : ℝ) : EReal) := rfl

theorem div_real (x : EReal) {y : ℝ} (hy : y ≠ 0) : Ideal.div x (y : EReal) = x * ((y⁻¹ : ℝ) : EReal) := by
  unfold Ideal.div
  rw [if_neg (by exact_mod_cast hy), EReal.coe_inv]

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- Every device's weights, shifted by `a`, against the whole row's, shifted by `b`. -/
theorem mean_eq {ι : Type} [Fintype ι] [Nonempty ι] (s : ι → ℝ) (v : ι → EReal) (a b : ℝ) :
    Ideal.div (∑ k, v k * Ideal.exp ((s k : EReal) - (a : EReal))) (∑ k, Ideal.exp ((s k : EReal) - (a : EReal)))
      = ∑ k, v k * Ideal.div (Ideal.exp ((s k : EReal) - (b : EReal))) (∑ j, Ideal.exp ((s j : EReal) - (b : EReal))) := by
  have he : ∀ (k : ι) (c : ℝ), Ideal.exp ((s k : EReal) - (c : EReal)) = ((Real.exp (s k - c) : ℝ) : EReal) := fun k c => by
    rw [← EReal.coe_sub, exp_real]
  have hpos : ∀ c : ℝ, 0 < ∑ k, Real.exp (s k - c) := fun c =>
    Finset.sum_pos (fun k _ => Real.exp_pos _) Finset.univ_nonempty
  have hshift : ∀ c : ℝ, ∀ k, Real.exp (s k - c) = Real.exp (s k) * Real.exp (-c) := fun c k => by
    rw [sub_eq_add_neg, Real.exp_add]
  simp only [he, sum_real]
  rw [div_real _ (hpos a).ne', sum_mul_real _ _ (inv_nonneg.mpr (hpos a).le)]
  refine Finset.sum_congr rfl fun k _ => ?_
  rw [div_real _ (hpos b).ne', mul_assoc, ← EReal.coe_mul, ← EReal.coe_mul]
  congr 2
  simp only [hshift, ← Finset.sum_mul]
  have h1 := Real.exp_pos (-a)
  have h2 := Real.exp_pos (-b)
  have h3 : 0 < ∑ k, Real.exp (s k) := Finset.sum_pos (fun k _ => Real.exp_pos _) Finset.univ_nonempty
  field_simp

/-- A fold of `max` over finitely many real numbers, started at the bottom, is one of them. -/
theorem fold_max_real {ι : Type} [Fintype ι] [Nonempty ι] (f : ι → EReal) (hf : ∀ i, ∃ r : ℝ, f i = (r : EReal)) :
    ∃ r : ℝ, Finset.univ.fold max (⊥ : EReal) f = (r : EReal) := by
  have h : Finset.univ.fold max (⊥ : EReal) f = Finset.univ.sup f := rfl
  obtain ⟨i, -, hi⟩ := Finset.exists_mem_eq_sup Finset.univ Finset.univ_nonempty f
  obtain ⟨r, hr⟩ := hf i
  exact ⟨r, by rw [h, hi, hr]⟩

/-- What lies strictly between the infinities is a real number. -/
theorem real_of_abs_lt {x : EReal} (h : max x (-x) < ⊤) : ∃ r : ℝ, x = (r : EReal) := by
  induction x using EReal.rec with
  | bot => exact absurd h (by simp)
  | top => exact absurd h (by simp)
  | coe r => exact ⟨r, rfl⟩

theorem ofBits_sixteen : Ideal.ofBits .f32 0x41800000#32 = ((16 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_eighth_bf16 : Ideal.ofBits .bf16 0x3E00#16 = ((1 / 8 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

end Cert.Weights

end
-- ==== Proof.Value.KernelSide.lean ====
/- What device `c` returns, at an index: the weighted mean over every device's keys. -/
module

public import proofs.«01_k».proof.Proof.KernelIdeal.Run
public import proofs.«01_k».proof.Proof.Value.Pay
public import proofs.«01_k».proof.Proof.Value.Weights

@[expose] public section

noncomputable section

namespace Cert.KernelIdeal.Ring

open Idealize.ShloMosaic Idealize.ShloMosaic.TcCoe
open Cert.KernelIdeal Cert.KernelIdeal.Gen

variable (m : (ℓ : Loc nD τ sig) → Buf (Elt Ideal) ℓ)

/-- The devices met along the ring from `c` are all the devices. -/
theorem ring_bij (c : Dev nD) : Function.Bijective fun h : Fin 16 => (prv^[h.val] c : Dev nD) := by
  revert c; decide

theorem ring_sum (c : Dev nD) (f : Dev nD → EReal) : ∑ h ∈ Finset.range 16, f (prv^[h] c) = ∑ e : Dev nD, f e := by
  rw [← Fin.sum_univ_eq_sum_range (fun h => f (prv^[h] c)) 16]
  exact Function.Bijective.sum_comp (ring_bij c) f

theorem zero_word : Ideal.ofBits .f32 0x00000000#32 = 0 := by simp [Ideal.ofBits, Ideal.ieee]

section Sums
variable (K V : Dev nD → S64x256x64.Idx → EReal) (c : Dev nD) (X : S64x256x64.Idx → EReal)

theorem lN_apply (i : Fin 64) (q : Fin 256) (n : ℕ) :
    lN (F := Ideal) (fun e => pairKV (F := Ideal) (K e) (V e)) c X n (ix3 i 0 q) = ∑ h ∈ Finset.range n, ∑ k, wt X (K (prv^[h] c)) i k q := by
  induction n with
  | zero =>
    rw [Finset.sum_range_zero]
    show k0_pay243 (F := Ideal) (ix3 i 0 q) = 0
    pointwise [k0_pay243]
  | succ n ih =>
    rw [Finset.sum_range_succ, ← ih]
    exact lNew_apply X (K (prv^[n] c)) (V (prv^[n] c)) _ i q

theorem accN_apply (i d : Fin 64) (q : Fin 256) (n : ℕ) :
    accN (F := Ideal) (fun e => pairKV (F := Ideal) (K e) (V e)) c X n (ix3 i d q)
      = ∑ h ∈ Finset.range n, ∑ k, V (prv^[h] c) (ix3 i k d) * wt X (K (prv^[h] c)) i k q := by
  induction n with
  | zero =>
    rw [Finset.sum_range_zero]
    show k0_pay244 (F := Ideal) (ix3 i d q) = 0
    pointwise [k0_pay244]
  | succ n ih =>
    rw [Finset.sum_range_succ, ← ih]
    exact aNew_apply X (K (prv^[n] c)) (V (prv^[n] c)) _ i d q

end Sums

theorem outB_apply (c : Dev nD) (i d : Fin 64) (q : Fin 256) :
    outB (F := Ideal) m c (ix3 i d q)
      = Ideal.div (∑ e : Dev nD, ∑ k, Vq m e (ix3 i k d) * wt (Xq m c) (Kq m e) i k q) (∑ e : Dev nD, ∑ k, wt (Xq m c) (Kq m e) i k q) := by
  unfold outB
  pointwise [k0_pay261]
  rw [← ring_sum c fun e => ∑ k, Vq m e (ix3 i k d) * wt (Xq m c) (Kq m e) i k q, ← ring_sum c fun e => ∑ k, wt (Xq m c) (Kq m e) i k q]
  exact congrArg₂ Ideal.div (accN_apply (Kq m) (Vq m) c (Xq m c) i d q 16) (lN_apply (Kq m) (Vq m) c (Xq m c) i q 16)

/-- Row `h · 4 + b` of the packed blocks. -/
def rowOf (b : Fin 4) (h : Fin 16) : Fin 64 := ⟨h.val * 4 + b.val, by omega⟩

theorem arr_o (c : Dev nD) : (datR (F := Ideal) m c).arrAt 3 cfg0.N = outB m c := by
  refine (datR m c).arrAt_eq_of_after_last 3 t0_0 (by decide +kernel) _ fun j => ?_
  blk_simp
  rfl

/-- Device `c`'s arguments as launched. -/
abbrev Qa (c : Dev nD) : S4x256x16x64.Idx → EReal := m ((c : Thread nD τ).loc main_arg0)
abbrev Ka (c : Dev nD) : S4x256x16x64.Idx → EReal := m ((c : Thread nD τ).loc main_arg1)
abbrev Va (c : Dev nD) : S4x256x16x64.Idx → EReal := m ((c : Thread nD τ).loc main_arg2)

theorem pack_apply (X : FVec Ideal S4x256x16x64 .bf16) (b : Fin 4) (h : Fin 16) (s : Fin 256) (d : Fin 64) :
    shapeCast S64x256x64 (transpose S16x4x256x64 [2, 0, 1, 3] X transposes_S4x256x16x64_S16x4x256x64_2_0_1_3) shapeCasts_S16x4x256x64_S64x256x64
      (ix3 (rowOf b h) s d) = X (ix4 b s h d) := by
  pointwise []
  have e1 : (⟨(rowOf b h).val % 4, by omega⟩ : Fin 4) = b := Fin.ext (by show (h.val * 4 + b.val) % 4 = b.val; omega)
  have e2 : (⟨(rowOf b h).val / 4, by have := (rowOf b h).isLt; omega⟩ : Fin 16) = h := Fin.ext (by show (h.val * 4 + b.val) / 4 = h.val; omega)
  exact congrArg₂ (fun (x : Fin 4) (y : Fin 16) => X (ix4 x s y d)) e1 e2

theorem unpack_apply (Y : FVec Ideal S64x64x256 .f32) (b : Fin 4) (h : Fin 16) (s : Fin 256) (d : Fin 64) :
    transpose S4x256x16x64 [1, 3, 0, 2] (shapeCast S16x4x64x256 Y shapeCasts_S64x64x256_S16x4x64x256) transposes_S16x4x64x256_S4x256x16x64_1_3_0_2
      (ix4 b s h d) = Y (ix3 (rowOf b h) d s) := by
  pointwise []
  rfl

theorem v4_eq (c : Dev nD) : V₁ (F := Ideal) m c (Proc.devRef .tc main_v4)
    = shapeCast S64x256x64 (transpose S16x4x256x64 [2, 0, 1, 3] (mulf (F := Ideal) (φ := .bf16) (Qa m c)
        (broadcastInDim S4x256x16x64 ![] bcast_S_S4x256x16x64 (constant S_ .bf16 0x3E00#16))) transposes_S4x256x16x64_S16x4x256x64_2_0_1_3)
        shapeCasts_S16x4x256x64_S64x256x64 := by
  unfold V₁
  after_results
  rfl
theorem v6_eq (c : Dev nD) : V₁ (F := Ideal) m c (Proc.devRef .tc main_v6)
    = shapeCast S64x256x64 (transpose S16x4x256x64 [2, 0, 1, 3] (Ka m c) transposes_S4x256x16x64_S16x4x256x64_2_0_1_3)
        shapeCasts_S16x4x256x64_S64x256x64 := by
  unfold V₁
  after_results
  rfl
theorem v8_eq (c : Dev nD) : V₁ (F := Ideal) m c (Proc.devRef .tc main_v8)
    = shapeCast S64x256x64 (transpose S16x4x256x64 [2, 0, 1, 3] (Va m c) transposes_S4x256x16x64_S16x4x256x64_2_0_1_3)
        shapeCasts_S16x4x256x64_S64x256x64 := by
  unfold V₁
  after_results
  rfl

theorem idx_zero : (∀ a, win0_0.index t0_0 a = 0) ∧ (∀ a, win0_1.index t0_0 a = 0) ∧ ∀ a, win0_2.index t0_0 a = 0 := by decide
theorem read_q (c : Dev nD) (j : S64x256x64.Idx) : Xq (F := Ideal) m c j = V₁ (F := Ideal) m c (Proc.devRef .tc main_v4) j := by
  show V₁ (F := Ideal) m c (Proc.devRef .tc main_v4) ((win0_0.blk t0_0).view.emb j) = _
  refine congrArg _ (funext fun a => Fin.ext ?_)
  have z := idx_zero.1
  match a with
  | ⟨0, _⟩ => have := z 0; blk_simp; rw [this]; omega
  | ⟨1, _⟩ => have := z 1; blk_simp; rw [this]; omega
  | ⟨2, _⟩ => have := z 2; blk_simp; rw [this]; omega
theorem read_k (c : Dev nD) (j : S64x256x64.Idx) : Kq (F := Ideal) m c j = V₁ (F := Ideal) m c (Proc.devRef .tc main_v6) j := by
  show V₁ (F := Ideal) m c (Proc.devRef .tc main_v6) ((win0_1.blk t0_0).view.emb j) = _
  refine congrArg _ (funext fun a => Fin.ext ?_)
  have z := idx_zero.2.1
  match a with
  | ⟨0, _⟩ => have := z 0; blk_simp; rw [this]; omega
  | ⟨1, _⟩ => have := z 1; blk_simp; rw [this]; omega
  | ⟨2, _⟩ => have := z 2; blk_simp; rw [this]; omega
theorem read_v (c : Dev nD) (j : S64x256x64.Idx) : Vq (F := Ideal) m c j = V₁ (F := Ideal) m c (Proc.devRef .tc main_v8) j := by
  show V₁ (F := Ideal) m c (Proc.devRef .tc main_v8) ((win0_2.blk t0_0).view.emb j) = _
  refine congrArg _ (funext fun a => Fin.ext ?_)
  have z := idx_zero.2.2
  match a with
  | ⟨0, _⟩ => have := z 0; blk_simp; rw [this]; omega
  | ⟨1, _⟩ => have := z 1; blk_simp; rw [this]; omega
  | ⟨2, _⟩ => have := z 2; blk_simp; rw [this]; omega

theorem Xq_apply (c : Dev nD) (b : Fin 4) (h : Fin 16) (s : Fin 256) (d : Fin 64) :
    Xq (F := Ideal) m c (ix3 (rowOf b h) s d) = Qa m c (ix4 b s h d) * Ideal.ofBits .bf16 0x3E00#16 := by
  rw [read_q, v4_eq, pack_apply]
  pointwise []
theorem Kq_apply (c : Dev nD) (b : Fin 4) (h : Fin 16) (s : Fin 256) (d : Fin 64) :
    Kq (F := Ideal) m c (ix3 (rowOf b h) s d) = Ka m c (ix4 b s h d) := by
  rw [read_k, v6_eq]; exact pack_apply (Ka m c) b h s d
theorem Vq_apply (c : Dev nD) (b : Fin 4) (h : Fin 16) (s : Fin 256) (d : Fin 64) :
    Vq (F := Ideal) m c (ix3 (rowOf b h) s d) = Va m c (ix4 b s h d) := by
  rw [read_v, v8_eq]; exact pack_apply (Va m c) b h s d

theorem v11_eq (c : Dev nD) : V₃ (F := Ideal) m c (Proc.devRef .tc main_v11)
    = transpose S4x256x16x64 [1, 3, 0, 2] (shapeCast S16x4x64x256 (outB (F := Ideal) m c) shapeCasts_S64x64x256_S16x4x64x256)
        transposes_S16x4x64x256_S4x256x16x64_1_3_0_2 := by
  rw [← arr_o m c, V₂_arr m c 3]
  unfold V₃
  after_results
  rfl

theorem result_apply (c : Dev nD) (b : Fin 4) (h : Fin 16) (s : Fin 256) (d : Fin 64) :
    V₃ (F := Ideal) m c (Proc.devRef .tc main_v11) (ix4 b s h d) = outB m c (ix3 (rowOf b h) d s) := by
  rw [v11_eq]; exact unpack_apply _ b h s d

end Cert.KernelIdeal.Ring

end
-- ==== Proof.Value.RefSide.lean ====
/- What the reference returns, at an index: the softmax of the scaled scores, with the row's maximum taken off, against
   the values. -/
module

public import proofs.«01_k».proof.Proof.Gen.ReferenceIdeal
public import proofs.«01_k».proof.Proof.Gen.ReferenceIdeal.Run
public import proofs.«01_k».proof.Proof.Value.Weights
public import Idealize.ShloMosaic.Lib.Pointwise

@[expose] public section

noncomputable section

namespace Cert.ReferenceIdeal.Side

open Idealize.ShloMosaic Idealize.ShloMosaic.TcCoe
open Cert.ReferenceIdeal Cert.ReferenceIdeal.Gen

variable (Q K V : FVec Ideal S4x4096x16x64 .bf16)

/-- The scaled scores. -/
def scores : FVec Ideal S4x16x4096x4096 .f32 :=
  mulf (Host.dotGeneral dot_S4x4096x16x64_S4x4096x16x64_S4x16x4096x4096_3_3_1_1_02_02 none (extf .f32 Q bitsLt_bf16_f32) (extf .f32 K bitsLt_bf16_f32)) (broadcastInDim S4x16x4096x4096 ![] bcast_S_S4x16x4096x4096 (constant S_ .f32 0x3E000000#32))
/-- Each row's maximum. -/
def rowMax : FVec Ideal S4x16x4096 .f32 := Host.reduce FloatOps.maximumf (scores Q K) (constant S_ .f32 0xFF800000#32) reducesTo_S4x16x4096x4096_S4x16x4096_d3 h_S_
/-- The exponentials of the scores less their row's maximum. -/
def expd : FVec Ideal S4x16x4096x4096 .f32 :=
  Host.exp (subf (scores Q K) (broadcastInDim S4x16x4096x4096 ![0, 1, 2, 3] bcast_S4x16x4096x1_S4x16x4096x4096_0_1_2_3 (broadcastInDim S4x16x4096x1 ![0, 1, 2] bcast_S4x16x4096_S4x16x4096x1_0_1_2 (rowMax Q K))))
/-- The reference's result. -/
def result : FVec Ideal S4x4096x16x64 .f32 :=
  transpose S4x4096x16x64 [0, 3, 1, 2] (Host.dotGeneral dot_S4x4096x16x64_S4x16x4096x4096_S4x16x64x4096_1_3_3_2_02_01 none (extf .f32 V bitsLt_bf16_f32) (Host.divf (expd Q K) (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd (expd Q K) (constant S_ .f32 0x00000000#32) reducesTo_S4x16x4096x4096_S4x16x4096_d3 h_S_))))) transposes_S4x16x64x4096_S4x4096x16x64_0_3_1_2

/-- The score of key `k` for query `s`, at batch `b` and head `h`. -/
def sc (b : Fin 4) (h : Fin 16) (s k : Fin 4096) : EReal :=
  (∑ d : Fin 64, Q (ix4 b s h d) * K (ix4 b k h d)) * Ideal.ofBits .f32 0x3E000000#32

theorem scores_apply (b : Fin 4) (h : Fin 16) (s k : Fin 4096) : scores Q K (ix4 b h s k) = sc Q K b h s k := by
  unfold scores sc
  pointwise []

/-- A row's maximum. -/
def mx (b : Fin 4) (h : Fin 16) (s : Fin 4096) : EReal := Finset.univ.fold max (⊥ : EReal) fun k => sc Q K b h s k

theorem rowMax_apply (b : Fin 4) (h : Fin 16) (s : Fin 4096) : rowMax Q K (ix3 b h s) = mx Q K b h s := by
  unfold rowMax mx
  pointwise []
  rw [Weights.ofBits_bot]
  exact congrArg (fun f => Finset.univ.fold max (⊥ : EReal) f) (funext fun k => scores_apply Q K b h s k)

theorem expd_apply (b : Fin 4) (h : Fin 16) (s k : Fin 4096) :
    expd Q K (ix4 b h s k) = Ideal.exp (sc Q K b h s k - mx Q K b h s) := by
  unfold expd
  pointwise []
  rw [scores_apply, rowMax_apply]

theorem result_apply (b : Fin 4) (h : Fin 16) (s : Fin 4096) (d : Fin 64) :
    result Q K V (ix4 b s h d) = ∑ k, V (ix4 b k h d) * Ideal.div (Ideal.exp (sc Q K b h s k - mx Q K b h s))
      (∑ j, Ideal.exp (sc Q K b h s j - mx Q K b h s)) := by
  unfold result
  pointwise []
  simp only [expd_apply]

end Cert.ReferenceIdeal.Side

end
-- ==== Proof.Value.Join.lean ====
/- The two sides meet: block `c` of the reference's result is what device `c` returns. -/
module

public import proofs.«01_k».proof.Pre_finite_qk_KernelIdeal
public import proofs.«01_k».proof.Proof.Value.KernelSide
public import proofs.«01_k».proof.Proof.Value.RefSide
public import Idealize.ShloMosaic.Lib.Layout
public import Idealize.ShloMosaic.Lib.LayoutAt
public import Idealize.ShloMosaic.Lib.ReduceAll

@[expose] public section

noncomputable section

namespace Cert.Join

open Idealize.ShloMosaic Idealize.ShloMosaic.TcCoe
open Cert.Weights

/-- A device's block, and the whole array. -/
abbrev SB : Shape := ⟨4, ![4, 256, 16, 64]⟩
abbrev SW : Shape := ⟨4, ![4, 4096, 16, 64]⟩

/-! ## Places -/

/-- Device `e`'s row `k` in the whole array. -/
def at4096 (e : Fin 16) (k : Fin 256) : Fin 4096 := ⟨e.val * 256 + k.val, by omega⟩

theorem at_split (x : Fin 4096) : ∃ (e : Fin 16) (k : Fin 256), x = at4096 e k :=
  ⟨⟨x.val / 256, by omega⟩, ⟨x.val % 256, by omega⟩, Fin.ext (by show x.val = x.val / 256 * 256 + x.val % 256; omega)⟩

theorem sum_split (f : Fin 4096 → EReal) : ∑ x, f x = ∑ e : Fin 16, ∑ k : Fin 256, f (at4096 e k) := by
  rw [← Fintype.sum_prod_type' (fun (e : Fin 16) (k : Fin 256) => f (at4096 e k))]
  refine (Function.Bijective.sum_comp (e := fun p : Fin 16 × Fin 256 => at4096 p.1 p.2) ⟨?_, ?_⟩ f).symm
  · rintro ⟨e, k⟩ ⟨e', k'⟩ h
    have h' : e.val * 256 + k.val = e'.val * 256 + k'.val := congrArg Fin.val h
    exact Prod.ext (Fin.ext (by show e.val = e'.val; omega)) (Fin.ext (by show k.val = k'.val; omega))
  · intro x
    obtain ⟨e, k, rfl⟩ := at_split x
    exact ⟨(e, k), rfl⟩

theorem block_at (h : Layout.Tiles SB SW 1 16) (v : SW.Idx → EReal) (c : Fin 16) (b : Fin 4) (s : Fin 256) (n : Fin 16) (d : Fin 64) :
    Layout.block SB SW 1 16 c v h (ix4 b s n d) = v (ix4 b (at4096 c s) n d) := by
  rw [Layout.block_apply]
  unfold at4096
  shard_ext

/-! ## The precondition -/

theorem preFacts : Cert.Pre_finite_qk_KernelIdeal.Facts where
  bitsLt_bf16_f32 := by decide
  bcast_S_S4x256x16x64 := by decide
  reducesTo_S4x256x16x64_S_d0_1_2_3 := by decide
  h_S_ := by decide

theorem real_of_word {x : EReal} (h : BitVec.ofBool (decide (max x (-x) < Ideal.ofBits .f32 0x7F800000#32)) = 1#1) : ∃ r : ℝ, x = (r : EReal) := by
  rw [ofBits_top] at h
  by_cases hx : max x (-x) < ⊤
  · exact real_of_abs_lt hx
  · rw [decide_eq_false hx] at h
    exact absurd h (by decide)

theorem finite_of_pre (hP : Cert.Pre_finite_qk_KernelIdeal.Facts) (q k v : SB.Idx → EReal)
    (h : Cert.Pre_finite_qk_KernelIdeal.fn (F := Ideal) q k v = fun _ => 1#1) (i : SB.Idx) :
    (∃ r : ℝ, q i = (r : EReal)) ∧ ∃ r : ℝ, k i = (r : EReal) := by
  have h0 := congrFun h ix0
  unfold Cert.Pre_finite_qk_KernelIdeal.fn at h0
  obtain ⟨h1, h2⟩ := IntOp.andi_eq_one.1 h0
  have e1 := Host.reduce_andi_all _ _ _ _ _ h1 i
  have e2 := Host.reduce_andi_all _ _ _ _ _ h2 i
  pointwise [] at e1 e2
  exact ⟨real_of_word e1, real_of_word e2⟩

/-! ## The value -/

section Value
variable (Qa Ka Va : Fin 16 → SB.Idx → EReal) (Q K V : SW.Idx → EReal)
  (hQ : ∀ c b s h d, Qa c (ix4 b s h d) = Q (ix4 b (at4096 c s) h d))
  (hK : ∀ c b s h d, Ka c (ix4 b s h d) = K (ix4 b (at4096 c s) h d))
  (hV : ∀ c b s h d, Va c (ix4 b s h d) = V (ix4 b (at4096 c s) h d))
  (fQ : ∀ c i, ∃ r : ℝ, Qa c i = (r : EReal)) (fK : ∀ c i, ∃ r : ℝ, Ka c i = (r : EReal))

include hQ hK in
/-- The kernel scales each query, the reference each score. -/
theorem score_eq (c e : Fin 16) (b : Fin 4) (h : Fin 16) (s k : Fin 256) :
    ∑ d : Fin 64, Ka e (ix4 b k h d) * (Qa c (ix4 b s h d) * Ideal.ofBits .bf16 0x3E00#16)
      = ReferenceIdeal.Side.sc Q K b h (at4096 c s) (at4096 e k) := by
  unfold ReferenceIdeal.Side.sc
  rw [ofBits_eighth, ofBits_eighth_bf16, sum_mul_real _ _ (by norm_num)]
  refine Finset.sum_congr rfl fun d _ => ?_
  rw [hQ, hK, mul_left_comm, mul_assoc]

include hQ hK fQ fK in
theorem score_real (b : Fin 4) (h : Fin 16) (s k : Fin 4096) : ∃ r : ℝ, ReferenceIdeal.Side.sc Q K b h s k = (r : EReal) := by
  obtain ⟨c, s, rfl⟩ := at_split s
  obtain ⟨e, k, rfl⟩ := at_split k
  choose q hq using fun d : Fin 64 => fQ c (ix4 b s h d)
  choose x hx using fun d : Fin 64 => fK e (ix4 b k h d)
  refine ⟨∑ d, x d * (q d * (1 / 8)), ?_⟩
  rw [← score_eq Qa Ka Q K hQ hK, ← sum_real, ofBits_eighth_bf16]
  refine Finset.sum_congr rfl fun d _ => ?_
  rw [hq, hx, EReal.coe_mul, EReal.coe_mul]

include hQ hK hV fQ fK in
theorem value_eq (c : Fin 16) (b : Fin 4) (h : Fin 16) (s : Fin 256) (d : Fin 64) :
    Ideal.div
        (∑ e : Fin 16, ∑ k : Fin 256, Va e (ix4 b k h d)
          * Ideal.exp (∑ d' : Fin 64, Ka e (ix4 b k h d') * (Qa c (ix4 b s h d') * Ideal.ofBits .bf16 0x3E00#16) - Ideal.ofBits .f32 0x41800000#32))
        (∑ e : Fin 16, ∑ k : Fin 256,
          Ideal.exp (∑ d' : Fin 64, Ka e (ix4 b k h d') * (Qa c (ix4 b s h d') * Ideal.ofBits .bf16 0x3E00#16) - Ideal.ofBits .f32 0x41800000#32))
      = ReferenceIdeal.Side.result Q K V (ix4 b (at4096 c s) h d) := by
  rw [ReferenceIdeal.Side.result_apply]
  simp only [score_eq Qa Ka Q K hQ hK, hV, ofBits_sixteen]
  rw [← sum_split fun x => V (ix4 b x h d) * Ideal.exp (ReferenceIdeal.Side.sc Q K b h (at4096 c s) x - ((16 : ℝ) : EReal)),
    ← sum_split fun x => Ideal.exp (ReferenceIdeal.Side.sc Q K b h (at4096 c s) x - ((16 : ℝ) : EReal))]
  have fs := score_real Qa Ka Q K hQ hK fQ fK b h (at4096 c s)
  obtain ⟨M, hM⟩ := fold_max_real (fun x => ReferenceIdeal.Side.sc Q K b h (at4096 c s) x) fs
  have hM' : ReferenceIdeal.Side.mx Q K b h (at4096 c s) = (M : EReal) := hM
  choose r hr using fs
  rw [hM']
  simp only [hr]
  exact mean_eq r (fun x => V (ix4 b x h d)) 16 M

end Value

end Cert.Join

end
-- ==== Proof.lean ====
/- The certificate: the frames of the kernel, of its idealization and of the reference, and the value claim. -/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import proofs.«01_k».proof.Proof.Value.Join

@[expose] public section

noncomputable section

namespace Cert.Proof

open Idealize.ShloMosaic Idealize.SL.Sem

theorem frame_kernel : Cert.quiescent_Kernel := fun m g _ =>
  (θ_run _ _ _).mono (fun _ h => ⟨fun c => ⟨(h.1 c).1, (h.1 c).2.1, (h.1 c).2.2.1⟩, h.2⟩) (Cert.Kernel.Ring.run_main m g)

theorem frame_ideal : Cert.quiescent_KernelIdeal := fun m g _ =>
  (θ_run _ _ _).mono (fun _ h => ⟨fun c => ⟨(h.1 c).1, (h.1 c).2.1, (h.1 c).2.2.1⟩, h.2⟩) (Cert.KernelIdeal.Ring.run_main m g)

theorem frame_reference : Cert.quiescent_ReferenceIdeal := fun m g _ =>
  (θ_run _ _ _).mono (fun r h => ⟨fun c => (h c).2, sem_eq_zero_of_no_sems (by decide) r.2⟩)
    (Cert.ReferenceIdeal.Value.run m g)

theorem referencePreFacts : Cert.Pre_finite_qk_ReferenceIdeal.Facts where
  bitsLt_bf16_f32 := by decide
  bcast_S_S4x4096x16x64 := by decide
  reducesTo_S4x4096x16x64_S_d0_1_2_3 := by decide
  h_S_ := by decide

/-- What device `c` returns is block `c` of the reference's result. -/
theorem block_eq (m : (ℓ : Loc Cert.KernelIdeal.nD Cert.KernelIdeal.τ Cert.KernelIdeal.sig) → Buf (Elt Ideal) ℓ)
    (Q K V : Cert.Join.SW.Idx → EReal) (hP : Cert.Pre_finite_qk_KernelIdeal.Facts)
    (hpre : ∀ c, Cert.Pre_finite_qk_KernelIdeal.fn (F := Ideal) (Cert.KernelIdeal.Ring.Qa m c) (Cert.KernelIdeal.Ring.Ka m c) (Cert.KernelIdeal.Ring.Va m c) = fun _ => 1#1)
    (hm : ∀ c, Cert.KernelIdeal.Ring.Qa m c = Layout.block Cert.Join.SB Cert.Join.SW 1 16 c Q
      ∧ Cert.KernelIdeal.Ring.Ka m c = Layout.block Cert.Join.SB Cert.Join.SW 1 16 c K
      ∧ Cert.KernelIdeal.Ring.Va m c = Layout.block Cert.Join.SB Cert.Join.SW 1 16 c V) (c : Dev Cert.KernelIdeal.nD) :
    Cert.KernelIdeal.Ring.V₃ (F := Ideal) m c (Proc.devRef .tc Cert.KernelIdeal.main_v11)
      = Layout.block Cert.Join.SB Cert.Join.SW 1 16 c (Cert.ReferenceIdeal.Side.result Q K V) := by
  funext j
  obtain ⟨b, s, h, d, rfl⟩ : ∃ (b : Fin 4) (s : Fin 256) (h : Fin 16) (d : Fin 64), j = ix4 b s h d :=
    ⟨j 0, j 1, j 2, j 3, (Idealize.ShloMosaic.ValueIdx.eq_ix4 j).trans (ix4_eq_valueIdx _ _ _ _).symm⟩
  refine (Cert.KernelIdeal.Ring.result_apply m c b h s d).trans ?_
  rw [Cert.KernelIdeal.Ring.outB_apply, Cert.Join.block_at,
    ← Cert.Join.value_eq (Cert.KernelIdeal.Ring.Qa m) (Cert.KernelIdeal.Ring.Ka m) (Cert.KernelIdeal.Ring.Va m) Q K V
      (fun e b s h d => (congrFun (hm e).1 _).trans (Cert.Join.block_at _ Q e b s h d))
      (fun e b s h d => (congrFun (hm e).2.1 _).trans (Cert.Join.block_at _ K e b s h d))
      (fun e b s h d => (congrFun (hm e).2.2 _).trans (Cert.Join.block_at _ V e b s h d))
      (fun e i => (Cert.Join.finite_of_pre hP _ _ _ (hpre e) i).1) (fun e i => (Cert.Join.finite_of_pre hP _ _ _ (hpre e) i).2)]
  unfold Cert.KernelIdeal.Ring.wt
  simp only [Cert.KernelIdeal.Ring.Xq_apply, Cert.KernelIdeal.Ring.Kq_apply, Cert.KernelIdeal.Ring.Vq_apply]

theorem value (hP : Cert.Pre_finite_qk_KernelIdeal.Facts) :
    Cert.algebraic_KernelIdeal_ReferenceIdeal_pre_finite_qk_KernelIdeal (hPre_finite_qk_KernelIdeal := hP) := by
  intro m g m' g' hpre hm
  refine ⟨Cert.ReferenceIdeal.Side.result (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2)), ?_, ?_⟩
  · exact (θ_run _ _ _).mono (fun _ h c => ⟨(h.1 c).2.2.2.trans (block_eq m _ _ _ hP hpre hm c), (h.1 c).1, (h.1 c).2.1, (h.1 c).2.2.1⟩)
      (Cert.KernelIdeal.Ring.run_main m g)
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  Cert.Join.preFacts, referencePreFacts,
  frame_kernel, frame_ideal, fun m g _ => frame_ideal m g trivial, frame_reference, fun m g _ => frame_reference m g trivial,
  trivial, value Cert.Join.preFacts⟩

end Cert.Proof

end
